-- ==== Defs.lean ====
def Pre_Kernel [hPre_indices_in_plane : Cert.Pre_indices_in_plane.Facts] (m : (ℓ : Loc Cert.Kernel.nD Cert.Kernel.τ Cert.Kernel.sig) → Buf (Elt Bits) ℓ) : Prop :=
  ∀ c : Dev Cert.Kernel.nD,
    (Cert.Pre_indices_in_plane.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_indices_in_plane : Cert.Pre_indices_in_plane.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_plane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_plane [hPre_indices_in_plane : Cert.Pre_indices_in_plane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_plane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_indices_in_plane : Cert.Pre_indices_in_plane.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_indices_in_plane : Cert.Pre_indices_in_plane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_indices_in_plane [hReferenceIdeal : Cert.ReferenceIdeal.Facts] [hPre_indices_in_plane : Cert.Pre_indices_in_plane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_plane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_plane : Cert.Pre_indices_in_plane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_indices_in_plane : Cert.Pre_indices_in_plane.Facts),
    quiescent_Kernel (hKernel := hKernel) (hPre_indices_in_plane := hPre_indices_in_plane)
    ∧ quiescent_KernelIdeal (hKernelIdeal := hKernelIdeal) (hPre_indices_in_plane := hPre_indices_in_plane)
    ∧ quiescent_ReferenceIdeal (hReferenceIdeal := hReferenceIdeal)
    ∧ quiescent_ReferenceIdeal_pre_indices_in_plane (hReferenceIdeal := hReferenceIdeal) (hPre_indices_in_plane := hPre_indices_in_plane)
    ∧ preserves_Kernel_KernelIdeal
    ∧ algebraic_KernelIdeal_ReferenceIdeal (hKernelIdeal := hKernelIdeal) (hReferenceIdeal := hReferenceIdeal) (hPre_indices_in_plane := hPre_indices_in_plane)
-- ==== Pre_indices_in_plane.lean ====
abbrev S2x2x96x112x112 : Shape := ⟨5, ![2, 2, 96, 112, 112]⟩
abbrev S2x96x112x112 : Shape := ⟨4, ![2, 96, 112, 112]⟩
abbrev S_ : Shape := ⟨0, ![]⟩

class Facts : Prop where
  bcast_S_S2x96x112x112 : S_.BroadcastsInDim S2x96x112x112 (![] : Fin 0 → Fin S2x96x112x112.rank)
  reducesTo_S2x96x112x112_S_d0_1_2_3 : S2x96x112x112.ReducesTo [0, 1, 2, 3] S_
  h_S_ : 0 < S_.numel

variable [Facts]

def fn {F : FTy → Type} [FloatOps F] (main_arg0 : FVec F S2x2x96x112x112 .f32) (main_arg1 : IVec S2x96x112x112 32) : IVec S_ 1 :=
  let main_c : IVec S_ 32 := constantI S_ 32 0#32
  let main_v0 : IVec S2x96x112x112 32 := broadcastInDim S2x96x112x112 ![] bcast_S_S2x96x112x112 main_c
  let main_v1 : IVec S2x96x112x112 1 := cmpi .sge main_arg1 main_v0
  let main_c_0 : IVec S_ 1 := constantI S_ 1 1#1
  let main_v2 : IVec S_ 1 := (fun x v => Host.reduce IntOp.andi x v reducesTo_S2x96x112x112_S_d0_1_2_3 h_S_) main_v1 main_c_0
  let main_c_1 : IVec S_ 32 := constantI S_ 32 50176#32
  let main_v3 : IVec S2x96x112x112 32 := broadcastInDim S2x96x112x112 ![] bcast_S_S2x96x112x112 main_c_1
  let main_v4 : IVec S2x96x112x112 1 := cmpi .slt main_arg1 main_v3
  let main_c_2 : IVec S_ 1 := constantI S_ 1 1#1
  let main_v5 : IVec S_ 1 := (fun x v => Host.reduce IntOp.andi x v reducesTo_S2x96x112x112_S_d0_1_2_3 h_S_) main_v4 main_c_2
  let main_v6 : IVec S_ 1 := andi main_v2 main_v5
  main_v6
-- ==== Kernel.lean ====
abbrev S2x2x96x112x112 : Shape := ⟨5, ![2, 2, 96, 112, 112]⟩
abbrev S2x96x112x112 : Shape := ⟨4, ![2, 96, 112, 112]⟩
abbrev S384x12544 : Shape := ⟨2, ![384, 12544]⟩
abbrev S192x12544 : Shape := ⟨2, ![192, 12544]⟩
abbrev S384x50176 : Shape := ⟨2, ![384, 50176]⟩
abbrev S12544 : Shape := ⟨1, ![12544]⟩
abbrev S50176 : Shape := ⟨1, ![50176]⟩
abbrev S16 : Shape := ⟨1, ![16]⟩
abbrev S_ : Shape := ⟨0, ![]⟩
abbrev S1x12544 : Shape := ⟨2, ![1, 12544]⟩
abbrev S1x50176 : Shape := ⟨2, ![1, 50176]⟩
abbrev S2x2x96x224x224 : Shape := ⟨5, ![2, 2, 96, 224, 224]⟩

abbrev nBuf : Table → Nat
  | .hbm => 6
  | .local .scVector .vmem => 3
  | _ => 0

abbrev bufTy : (tb : Table) → Fin (nBuf tb) → BufTy
  | .hbm, ⟨0, _⟩ => ⟨S2x2x96x112x112, .f32⟩
  | .hbm, ⟨1, _⟩ => ⟨S2x96x112x112, .i32⟩
  | .hbm, ⟨2, _⟩ => ⟨S384x12544, .f32⟩
  | .hbm, ⟨3, _⟩ => ⟨S192x12544, .i32⟩
  | .hbm, ⟨4, _⟩ => ⟨S384x50176, .f32⟩
  | .hbm, ⟨5, _⟩ => ⟨S2x2x96x224x224, .f32⟩
  | .local .scVector .vmem, ⟨0, _⟩ => ⟨S12544, .i32⟩
  | .local .scVector .vmem, ⟨1, _⟩ => ⟨S12544, .f32⟩
  | .local .scVector .vmem, ⟨2, _⟩ => ⟨S50176, .f32⟩
  | _, _ => ⟨S2x2x96x112x112, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c3136_i32 : BitVec 32 := 3136#32
  let v3 : BitVec 32 := Scalar.addi c0_i32_0 c3136_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v201 : BitVec 32 := Scalar.muli arg8 c16_i32
  let v202 : Index := Scalar.indexCast v201
  ![v202.toNat]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v5 : BitVec 32 := Scalar.muli v1 c6_i32
  let v6 : BitVec 32 := Scalar.addi v5 c0_i32_2
  let c0_i32_164_r0 : BitVec 32 := 0#32
  ![v6.toNat, 0]
def k0_off3 (i : grid0.Coords) (c0_i32_2 : BitVec 32) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v5 : BitVec 32 := Scalar.muli v1 c6_i32
  let v6 : BitVec 32 := Scalar.addi v5 c0_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c96_i32 : BitVec 32 := 96#32
  let c0_i32_5 : BitVec 32 := 0#32
  let v13 : BitVec 1 := Scalar.cmpi .sgt c96_i32 c0_i32_5
  let v14 : BitVec 32 := Scalar.extui v13
  let c0_i32_6 : BitVec 32 := 0#32
  let v15 : BitVec 1 := Scalar.cmpi .slt c96_i32 c0_i32_6
  let v16 : BitVec 32 := Scalar.extui v15
  let v17 : BitVec 32 := Scalar.subi v14 v16
  let v18 : BitVec 1 := Scalar.cmpi .ne v12 v17
  let v19 : BitVec 32 := Scalar.remsi v6 c96_i32
  let c0_i32_7 : BitVec 32 := 0#32
  let v20 : BitVec 1 := Scalar.cmpi .ne v19 c0_i32_7
  let v21 : BitVec 1 := Scalar.andi v18 v20
  let v7 : BitVec 32 := Scalar.divsi v6 c96_i32
  let c1_i32_8 : BitVec 32 := 1#32
  let v22 : BitVec 32 := Scalar.subi v7 c1_i32_8
  let v23 : BitVec 32 := Scalar.select v21 v22 v7
  let c192_i32 : BitVec 32 := 192#32
  let v26 : BitVec 32 := Scalar.muli v23 c192_i32
  let v27 : BitVec 32 := Scalar.addi v26 c0_i32_10
  let c96_i32_9 : BitVec 32 := 96#32
  let v24 : BitVec 32 := Scalar.muli v23 c96_i32_9
  let v25 : BitVec 32 := Scalar.subi v6 v24
  let v28 : BitVec 32 := Scalar.addi v27 v25
  let c0_i32_164_r1 : BitVec 32 := 0#32
  ![v28.toNat, 0]
@[reducible] def k0_t2_loop : Scf.Loop 32 :=
  let c0_i32_12 : BitVec 32 := 0#32
  let c784_i32 : BitVec 32 := 784#32
  let v29 : BitVec 32 := Scalar.addi c0_i32_12 c784_i32
  let c1_i32_13 : BitVec 32 := 1#32
  ⟨c0_i32_12, v29, c1_i32_13⟩
def k0_off4 (k0_t2 : Fin k0_t2_loop.trips) : Fin 1 → Nat :=
  let c0_i32_12 : BitVec 32 := 0#32
  let c1_i32_13 : BitVec 32 := 1#32
  let arg8 : BitVec 32 := Scf.iv c0_i32_12 c1_i32_13 k0_t2
  let c16_i32 : BitVec 32 := 16#32
  let v201 : BitVec 32 := Scalar.muli arg8 c16_i32
  let v202 : Index := Scalar.indexCast v201
  ![v202.toNat]

def k0_chk1 (v203 : IVec S16 32) : Prop :=
  (∀ a x, ((![v203] : Fin 1 → IVec S16 32) a x).toNat < S50176.size a)
theorem k0_idx1_inb : ∀ (v203 : IVec S16 32) (k0_hw1 : k0_chk1 v203), ∀ a x, ((![v203] : Fin 1 → IVec S16 32) a x).toNat < S50176.size a := fun v203 k0_hw1 => k0_hw1
def k0_off5 (i : grid0.Coords) (c0_i32_2 : BitVec 32) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v5 : BitVec 32 := Scalar.muli v1 c6_i32
  let v6 : BitVec 32 := Scalar.addi v5 c0_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c96_i32 : BitVec 32 := 96#32
  let c0_i32_5 : BitVec 32 := 0#32
  let v13 : BitVec 1 := Scalar.cmpi .sgt c96_i32 c0_i32_5
  let v14 : BitVec 32 := Scalar.extui v13
  let c0_i32_6 : BitVec 32 := 0#32
  let v15 : BitVec 1 := Scalar.cmpi .slt c96_i32 c0_i32_6
  let v16 : BitVec 32 := Scalar.extui v15
  let v17 : BitVec 32 := Scalar.subi v14 v16
  let v18 : BitVec 1 := Scalar.cmpi .ne v12 v17
  let v19 : BitVec 32 := Scalar.remsi v6 c96_i32
  let c0_i32_7 : BitVec 32 := 0#32
  let v20 : BitVec 1 := Scalar.cmpi .ne v19 c0_i32_7
  let v21 : BitVec 1 := Scalar.andi v18 v20
  let v7 : BitVec 32 := Scalar.divsi v6 c96_i32
  let c1_i32_8 : BitVec 32 := 1#32
  let v22 : BitVec 32 := Scalar.subi v7 c1_i32_8
  let v23 : BitVec 32 := Scalar.select v21 v22 v7
  let c192_i32 : BitVec 32 := 192#32
  let v26 : BitVec 32 := Scalar.muli v23 c192_i32
  let v27 : BitVec 32 := Scalar.addi v26 c0_i32_10
  let c96_i32_9 : BitVec 32 := 96#32
  let v24 : BitVec 32 := Scalar.muli v23 c96_i32_9
  let v25 : BitVec 32 := Scalar.subi v6 v24
  let v28 : BitVec 32 := Scalar.addi v27 v25
  let c0_i32_164_r2 : BitVec 32 := 0#32
  ![v28.toNat, 0]
@[reducible] def k0_t3_loop : Scf.Loop 32 :=
  let c0_i32_18 : BitVec 32 := 0#32
  let c784_i32_19 : BitVec 32 := 784#32
  let v34 : BitVec 32 := Scalar.addi c0_i32_18 c784_i32_19
  let c1_i32_20 : BitVec 32 := 1#32
  ⟨c0_i32_18, v34, c1_i32_20⟩
def k0_off6 (k0_t3 : Fin k0_t3_loop.trips) : Fin 1 → Nat :=
  let c0_i32_18 : BitVec 32 := 0#32
  let c1_i32_20 : BitVec 32 := 1#32
  let arg8 : BitVec 32 := Scf.iv c0_i32_18 c1_i32_20 k0_t3
  let c16_i32 : BitVec 32 := 16#32
  let v201 : BitVec 32 := Scalar.muli arg8 c16_i32
  let v202 : Index := Scalar.indexCast v201
  ![v202.toNat]

def k0_chk2 (v203 : IVec S16 32) : Prop :=
  (∀ a x, ((![v203] : Fin 1 → IVec S16 32) a x).toNat < S50176.size a)
theorem k0_idx2_inb : ∀ (v203 : IVec S16 32) (k0_hw2 : k0_chk2 v203), ∀ a x, ((![v203] : Fin 1 → IVec S16 32) a x).toNat < S50176.size a := fun v203 k0_hw2 => k0_hw2
@[reducible] def k0_t4_loop : Scf.Loop 32 :=
  let c0_i32_23 : BitVec 32 := 0#32
  let c784_i32_24 : BitVec 32 := 784#32
  let v36 : BitVec 32 := Scalar.addi c0_i32_23 c784_i32_24
  let c1_i32_25 : BitVec 32 := 1#32
  ⟨c0_i32_23, v36, c1_i32_25⟩
def k0_off7 (k0_t4 : Fin k0_t4_loop.trips) : Fin 1 → Nat :=
  let c0_i32_23 : BitVec 32 := 0#32
  let c1_i32_25 : BitVec 32 := 1#32
  let arg8 : BitVec 32 := Scf.iv c0_i32_23 c1_i32_25 k0_t4
  let c16_i32 : BitVec 32 := 16#32
  let v201 : BitVec 32 := Scalar.muli arg8 c16_i32
  let v202 : Index := Scalar.indexCast v201
  ![v202.toNat]

def k0_chk3 (v203 : IVec S16 32) : Prop :=
  (∀ a x, ((![v203] : Fin 1 → IVec S16 32) a x).toNat < S50176.size a)
theorem k0_idx3_inb : ∀ (v203 : IVec S16 32) (k0_hw3 : k0_chk3 v203), ∀ a x, ((![v203] : Fin 1 → IVec S16 32) a x).toNat < S50176.size a := fun v203 k0_hw3 => k0_hw3
@[reducible] def k0_t5_loop : Scf.Loop 32 :=
  let c0_i32_40 : BitVec 32 := 0#32
  let c784_i32_41 : BitVec 32 := 784#32
  let v62 : BitVec 32 := Scalar.addi c0_i32_40 c784_i32_41
  let c1_i32_42 : BitVec 32 := 1#32
  ⟨c0_i32_40, v62, c1_i32_42⟩
def k0_off8 (k0_t5 : Fin k0_t5_loop.trips) : Fin 1 → Nat :=
  let c0_i32_40 : BitVec 32 := 0#32
  let c1_i32_42 : BitVec 32 := 1#32
  let arg8 : BitVec 32 := Scf.iv c0_i32_40 c1_i32_42 k0_t5
  let c16_i32 : BitVec 32 := 16#32
  let v201 : BitVec 32 := Scalar.muli arg8 c16_i32
  let v202 : Index := Scalar.indexCast v201
  ![v202.toNat]

def k0_chk4 (v203 : IVec S16 32) : Prop :=
  (∀ a x, ((![v203] : Fin 1 → IVec S16 32) a x).toNat < S50176.size a)
theorem k0_idx4_inb : ∀ (v203 : IVec S16 32) (k0_hw4 : k0_chk4 v203), ∀ a x, ((![v203] : Fin 1 → IVec S16 32) a x).toNat < S50176.size a := fun v203 k0_hw4 => k0_hw4
@[reducible] def k0_t6_loop : Scf.Loop 32 :=
  let c0_i32_47 : BitVec 32 := 0#32
  let c784_i32_48 : BitVec 32 := 784#32
  let v67 : BitVec 32 := Scalar.addi c0_i32_47 c784_i32_48
  let c1_i32_49 : BitVec 32 := 1#32
  ⟨c0_i32_47, v67, c1_i32_49⟩
def k0_off9 (k0_t6 : Fin k0_t6_loop.trips) : Fin 1 → Nat :=
  let c0_i32_47 : BitVec 32 := 0#32
  let c1_i32_49 : BitVec 32 := 1#32
  let arg8 : BitVec 32 := Scf.iv c0_i32_47 c1_i32_49 k0_t6
  let c16_i32 : BitVec 32 := 16#32
  let v201 : BitVec 32 := Scalar.muli arg8 c16_i32
  let v202 : Index := Scalar.indexCast v201
  ![v202.toNat]

def k0_chk5 (v203 : IVec S16 32) : Prop :=
  (∀ a x, ((![v203] : Fin 1 → IVec S16 32) a x).toNat < S50176.size a)
theorem k0_idx5_inb : ∀ (v203 : IVec S16 32) (k0_hw5 : k0_chk5 v203), ∀ a x, ((![v203] : Fin 1 → IVec S16 32) a x).toNat < S50176.size a := fun v203 k0_hw5 => k0_hw5
@[reducible] def k0_t7_loop : Scf.Loop 32 :=
  let c0_i32_52 : BitVec 32 := 0#32
  let c784_i32_53 : BitVec 32 := 784#32
  let v69 : BitVec 32 := Scalar.addi c0_i32_52 c784_i32_53
  let c1_i32_54 : BitVec 32 := 1#32
  ⟨c0_i32_52, v69, c1_i32_54⟩
def k0_off10 (k0_t7 : Fin k0_t7_loop.trips) : Fin 1 → Nat :=
  let c0_i32_52 : BitVec 32 := 0#32
  let c1_i32_54 : BitVec 32 := 1#32
  let arg8 : BitVec 32 := Scf.iv c0_i32_52 c1_i32_54 k0_t7
  let c16_i32 : BitVec 32 := 16#32
  let v201 : BitVec 32 := Scalar.muli arg8 c16_i32
  let v202 : Index := Scalar.indexCast v201
  ![v202.toNat]

def k0_chk6 (v203 : IVec S16 32) : Prop :=
  (∀ a x, ((![v203] : Fin 1 → IVec S16 32) a x).toNat < S50176.size a)
theorem k0_idx6_inb : ∀ (v203 : IVec S16 32) (k0_hw6 : k0_chk6 v203), ∀ a x, ((![v203] : Fin 1 → IVec S16 32) a x).toNat < S50176.size a := fun v203 k0_hw6 => k0_hw6
@[reducible] def k0_t8_loop : Scf.Loop 32 :=
  let c0_i32_69 : BitVec 32 := 0#32
  let c784_i32_70 : BitVec 32 := 784#32
  let v95 : BitVec 32 := Scalar.addi c0_i32_69 c784_i32_70
  let c1_i32_71 : BitVec 32 := 1#32
  ⟨c0_i32_69, v95, c1_i32_71⟩
def k0_off11 (k0_t8 : Fin k0_t8_loop.trips) : Fin 1 → Nat :=
  let c0_i32_69 : BitVec 32 := 0#32
  let c1_i32_71 : BitVec 32 := 1#32
  let arg8 : BitVec 32 := Scf.iv c0_i32_69 c1_i32_71 k0_t8
  let c16_i32 : BitVec 32 := 16#32
  let v201 : BitVec 32 := Scalar.muli arg8 c16_i32
  let v202 : Index := Scalar.indexCast v201
  ![v202.toNat]

def k0_chk7 (v203 : IVec S16 32) : Prop :=
  (∀ a x, ((![v203] : Fin 1 → IVec S16 32) a x).toNat < S50176.size a)
theorem k0_idx7_inb : ∀ (v203 : IVec S16 32) (k0_hw7 : k0_chk7 v203), ∀ a x, ((![v203] : Fin 1 → IVec S16 32) a x).toNat < S50176.size a := fun v203 k0_hw7 => k0_hw7
@[reducible] def k0_t9_loop : Scf.Loop 32 :=
  let c0_i32_76 : BitVec 32 := 0#32
  let c784_i32_77 : BitVec 32 := 784#32
  let v100 : BitVec 32 := Scalar.addi c0_i32_76 c784_i32_77
  let c1_i32_78 : BitVec 32 := 1#32
  ⟨c0_i32_76, v100, c1_i32_78⟩
def k0_off12 (k0_t9 : Fin k0_t9_loop.trips) : Fin 1 → Nat :=
  let c0_i32_76 : BitVec 32 := 0#32
  let c1_i32_78 : BitVec 32 := 1#32
  let arg8 : BitVec 32 := Scf.iv c0_i32_76 c1_i32_78 k0_t9
  let c16_i32 : BitVec 32 := 16#32
  let v201 : BitVec 32 := Scalar.muli arg8 c16_i32
  let v202 : Index := Scalar.indexCast v201
  ![v202.toNat]

def k0_chk8 (v203 : IVec S16 32) : Prop :=
  (∀ a x, ((![v203] : Fin 1 → IVec S16 32) a x).toNat < S50176.size a)
theorem k0_idx8_inb : ∀ (v203 : IVec S16 32) (k0_hw8 : k0_chk8 v203), ∀ a x, ((![v203] : Fin 1 → IVec S16 32) a x).toNat < S50176.size a := fun v203 k0_hw8 => k0_hw8
@[reducible] def k0_t10_loop : Scf.Loop 32 :=
  let c0_i32_81 : BitVec 32 := 0#32
  let c784_i32_82 : BitVec 32 := 784#32
  let v102 : BitVec 32 := Scalar.addi c0_i32_81 c784_i32_82
  let c1_i32_83 : BitVec 32 := 1#32
  ⟨c0_i32_81, v102, c1_i32_83⟩
def k0_off13 (k0_t10 : Fin k0_t10_loop.trips) : Fin 1 → Nat :=
  let c0_i32_81 : BitVec 32 := 0#32
  let c1_i32_83 : BitVec 32 := 1#32
  let arg8 : BitVec 32 := Scf.iv c0_i32_81 c1_i32_83 k0_t10
  let c16_i32 : BitVec 32 := 16#32
  let v201 : BitVec 32 := Scalar.muli arg8 c16_i32
  let v202 : Index := Scalar.indexCast v201
  ![v202.toNat]

def k0_chk9 (v203 : IVec S16 32) : Prop :=
  (∀ a x, ((![v203] : Fin 1 → IVec S16 32) a x).toNat < S50176.size a)
theorem k0_idx9_inb : ∀ (v203 : IVec S16 32) (k0_hw9 : k0_chk9 v203), ∀ a x, ((![v203] : Fin 1 → IVec S16 32) a x).toNat < S50176.size a := fun v203 k0_hw9 => k0_hw9
@[reducible] def k0_t11_loop : Scf.Loop 32 :=
  let c0_i32_97 : BitVec 32 := 0#32
  let c784_i32_98 : BitVec 32 := 784#32
  let v128 : BitVec 32 := Scalar.addi c0_i32_97 c784_i32_98
  let c1_i32_99 : BitVec 32 := 1#32
  ⟨c0_i32_97, v128, c1_i32_99⟩
def k0_off14 (k0_t11 : Fin k0_t11_loop.trips) : Fin 1 → Nat :=
  let c0_i32_97 : BitVec 32 := 0#32
  let c1_i32_99 : BitVec 32 := 1#32
  let arg8 : BitVec 32 := Scf.iv c0_i32_97 c1_i32_99 k0_t11
  let c16_i32 : BitVec 32 := 16#32
  let v201 : BitVec 32 := Scalar.muli arg8 c16_i32
  let v202 : Index := Scalar.indexCast v201
  ![v202.toNat]

def k0_chk10 (v203 : IVec S16 32) : Prop :=
  (∀ a x, ((![v203] : Fin 1 → IVec S16 32) a x).toNat < S50176.size a)
theorem k0_idx10_inb : ∀ (v203 : IVec S16 32) (k0_hw10 : k0_chk10 v203), ∀ a x, ((![v203] : Fin 1 → IVec S16 32) a x).toNat < S50176.size a := fun v203 k0_hw10 => k0_hw10
@[reducible] def k0_t12_loop : Scf.Loop 32 :=
  let c0_i32_104 : BitVec 32 := 0#32
  let c784_i32_105 : BitVec 32 := 784#32
  let v133 : BitVec 32 := Scalar.addi c0_i32_104 c784_i32_105
  let c1_i32_106 : BitVec 32 := 1#32
  ⟨c0_i32_104, v133, c1_i32_106⟩
def k0_off15 (k0_t12 : Fin k0_t12_loop.trips) : Fin 1 → Nat :=
  let c0_i32_104 : BitVec 32 := 0#32
  let c1_i32_106 : BitVec 32 := 1#32
  let arg8 : BitVec 32 := Scf.iv c0_i32_104 c1_i32_106 k0_t12
  let c16_i32 : BitVec 32 := 16#32
  let v201 : BitVec 32 := Scalar.muli arg8 c16_i32
  let v202 : Index := Scalar.indexCast v201
  ![v202.toNat]

def k0_chk11 (v203 : IVec S16 32) : Prop :=
  (∀ a x, ((![v203] : Fin 1 → IVec S16 32) a x).toNat < S50176.size a)
theorem k0_idx11_inb : ∀ (v203 : IVec S16 32) (k0_hw11 : k0_chk11 v203), ∀ a x, ((![v203] : Fin 1 → IVec S16 32) a x).toNat < S50176.size a := fun v203 k0_hw11 => k0_hw11
@[reducible] def k0_t13_loop : Scf.Loop 32 :=
  let c0_i32_109 : BitVec 32 := 0#32
  let c784_i32_110 : BitVec 32 := 784#32
  let v135 : BitVec 32 := Scalar.addi c0_i32_109 c784_i32_110
  let c1_i32_111 : BitVec 32 := 1#32
  ⟨c0_i32_109, v135, c1_i32_111⟩
def k0_off16 (k0_t13 : Fin k0_t13_loop.trips) : Fin 1 → Nat :=
  let c0_i32_109 : BitVec 32 := 0#32
  let c1_i32_111 : BitVec 32 := 1#32
  let arg8 : BitVec 32 := Scf.iv c0_i32_109 c1_i32_111 k0_t13
  let c16_i32 : BitVec 32 := 16#32
  let v201 : BitVec 32 := Scalar.muli arg8 c16_i32
  let v202 : Index := Scalar.indexCast v201
  ![v202.toNat]

def k0_chk12 (v203 : IVec S16 32) : Prop :=
  (∀ a x, ((![v203] : Fin 1 → IVec S16 32) a x).toNat < S50176.size a)
theorem k0_idx12_inb : ∀ (v203 : IVec S16 32) (k0_hw12 : k0_chk12 v203), ∀ a x, ((![v203] : Fin 1 → IVec S16 32) a x).toNat < S50176.size a := fun v203 k0_hw12 => k0_hw12
@[reducible] def k0_t14_loop : Scf.Loop 32 :=
  let c0_i32_125 : BitVec 32 := 0#32
  let c784_i32_126 : BitVec 32 := 784#32
  let v161 : BitVec 32 := Scalar.addi c0_i32_125 c784_i32_126
  let c1_i32_127 : BitVec 32 := 1#32
  ⟨c0_i32_125, v161, c1_i32_127⟩
def k0_off17 (k0_t14 : Fin k0_t14_loop.trips) : Fin 1 → Nat :=
  let c0_i32_125 : BitVec 32 := 0#32
  let c1_i32_127 : BitVec 32 := 1#32
  let arg8 : BitVec 32 := Scf.iv c0_i32_125 c1_i32_127 k0_t14
  let c16_i32 : BitVec 32 := 16#32
  let v201 : BitVec 32 := Scalar.muli arg8 c16_i32
  let v202 : Index := Scalar.indexCast v201
  ![v202.toNat]

def k0_chk13 (v203 : IVec S16 32) : Prop :=
  (∀ a x, ((![v203] : Fin 1 → IVec S16 32) a x).toNat < S50176.size a)
theorem k0_idx13_inb : ∀ (v203 : IVec S16 32) (k0_hw13 : k0_chk13 v203), ∀ a x, ((![v203] : Fin 1 → IVec S16 32) a x).toNat < S50176.size a := fun v203 k0_hw13 => k0_hw13
@[reducible] def k0_t15_loop : Scf.Loop 32 :=
  let c0_i32_132 : BitVec 32 := 0#32
  let c784_i32_133 : BitVec 32 := 784#32
  let v166 : BitVec 32 := Scalar.addi c0_i32_132 c784_i32_133
  let c1_i32_134 : BitVec 32 := 1#32
  ⟨c0_i32_132, v166, c1_i32_134⟩
def k0_off18 (k0_t15 : Fin k0_t15_loop.trips) : Fin 1 → Nat :=
  let c0_i32_132 : BitVec 32 := 0#32
  let c1_i32_134 : BitVec 32 := 1#32
  let arg8 : BitVec 32 := Scf.iv c0_i32_132 c1_i32_134 k0_t15
  let c16_i32 : BitVec 32 := 16#32
  let v201 : BitVec 32 := Scalar.muli arg8 c16_i32
  let v202 : Index := Scalar.indexCast v201
  ![v202.toNat]

def k0_chk14 (v203 : IVec S16 32) : Prop :=
  (∀ a x, ((![v203] : Fin 1 → IVec S16 32) a x).toNat < S50176.size a)
theorem k0_idx14_inb : ∀ (v203 : IVec S16 32) (k0_hw14 : k0_chk14 v203), ∀ a x, ((![v203] : Fin 1 → IVec S16 32) a x).toNat < S50176.size a := fun v203 k0_hw14 => k0_hw14
@[reducible] def k0_t16_loop : Scf.Loop 32 :=
  let c0_i32_137 : BitVec 32 := 0#32
  let c784_i32_138 : BitVec 32 := 784#32
  let v168 : BitVec 32 := Scalar.addi c0_i32_137 c784_i32_138
  let c1_i32_139 : BitVec 32 := 1#32
  ⟨c0_i32_137, v168, c1_i32_139⟩
def k0_off19 (k0_t16 : Fin k0_t16_loop.trips) : Fin 1 → Nat :=
  let c0_i32_137 : BitVec 32 := 0#32
  let c1_i32_139 : BitVec 32 := 1#32
  let arg8 : BitVec 32 := Scf.iv c0_i32_137 c1_i32_139 k0_t16
  let c16_i32 : BitVec 32 := 16#32
  let v201 : BitVec 32 := Scalar.muli arg8 c16_i32
  let v202 : Index := Scalar.indexCast v201
  ![v202.toNat]

def k0_chk15 (v203 : IVec S16 32) : Prop :=
  (∀ a x, ((![v203] : Fin 1 → IVec S16 32) a x).toNat < S50176.size a)
theorem k0_idx15_inb : ∀ (v203 : IVec S16 32) (k0_hw15 : k0_chk15 v203), ∀ a x, ((![v203] : Fin 1 → IVec S16 32) a x).toNat < S50176.size a := fun v203 k0_hw15 => k0_hw15
@[reducible] def k0_t17_loop : Scf.Loop 32 :=
  let c0_i32_153 : BitVec 32 := 0#32
  let c784_i32_154 : BitVec 32 := 784#32
  let v194 : BitVec 32 := Scalar.addi c0_i32_153 c784_i32_154
  let c1_i32_155 : BitVec 32 := 1#32
  ⟨c0_i32_153, v194, c1_i32_155⟩
def k0_off20 (k0_t17 : Fin k0_t17_loop.trips) : Fin 1 → Nat :=
  let c0_i32_153 : BitVec 32 := 0#32
  let c1_i32_155 : BitVec 32 := 1#32
  let arg8 : BitVec 32 := Scf.iv c0_i32_153 c1_i32_155 k0_t17
  let c16_i32 : BitVec 32 := 16#32
  let v201 : BitVec 32 := Scalar.muli arg8 c16_i32
  let v202 : Index := Scalar.indexCast v201
  ![v202.toNat]

def k0_chk16 (v203 : IVec S16 32) : Prop :=
  (∀ a x, ((![v203] : Fin 1 → IVec S16 32) a x).toNat < S50176.size a)
theorem k0_idx16_inb : ∀ (v203 : IVec S16 32) (k0_hw16 : k0_chk16 v203), ∀ a x, ((![v203] : Fin 1 → IVec S16 32) a x).toNat < S50176.size a := fun v203 k0_hw16 => k0_hw16
@[reducible] def k0_t18_loop : Scf.Loop 32 :=
  let c0_i32_160 : BitVec 32 := 0#32
  let c784_i32_161 : BitVec 32 := 784#32
  let v199 : BitVec 32 := Scalar.addi c0_i32_160 c784_i32_161
  let c1_i32_162 : BitVec 32 := 1#32
  ⟨c0_i32_160, v199, c1_i32_162⟩
def k0_off21 (k0_t18 : Fin k0_t18_loop.trips) : Fin 1 → Nat :=
  let c0_i32_160 : BitVec 32 := 0#32
  let c1_i32_162 : BitVec 32 := 1#32
  let arg8 : BitVec 32 := Scf.iv c0_i32_160 c1_i32_162 k0_t18
  let c16_i32 : BitVec 32 := 16#32
  let v201 : BitVec 32 := Scalar.muli arg8 c16_i32
  let v202 : Index := Scalar.indexCast v201
  ![v202.toNat]

def k0_chk17 (v203 : IVec S16 32) : Prop :=
  (∀ a x, ((![v203] : Fin 1 → IVec S16 32) a x).toNat < S50176.size a)
theorem k0_idx17_inb : ∀ (v203 : IVec S16 32) (k0_hw17 : k0_chk17 v203), ∀ a x, ((![v203] : Fin 1 → IVec S16 32) a x).toNat < S50176.size a := fun v203 k0_hw17 => k0_hw17
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2x96x112x112 : Shape := ⟨5, ![2, 2, 96, 112, 112]⟩
abbrev S2x96x112x112 : Shape := ⟨4, ![2, 96, 112, 112]⟩
abbrev S2x1x96x112x112 : Shape := ⟨5, ![2, 1, 96, 112, 112]⟩
abbrev S192x12544 : Shape := ⟨2, ![192, 12544]⟩
abbrev S_ : Shape := ⟨0, ![]⟩
abbrev S192x50176 : Shape := ⟨2, ![192, 50176]⟩
abbrev S192 : Shape := ⟨1, ![192]⟩
abbrev S192x1 : Shape := ⟨2, ![192, 1]⟩
abbrev S192x12544x1 : Shape := ⟨3, ![192, 12544, 1]⟩
abbrev S192x12544x2 : Shape := ⟨3, ![192, 12544, 2]⟩
abbrev S2x96x224x224 : Shape := ⟨4, ![2, 96, 224, 224]⟩
abbrev S2x1x96x224x224 : Shape := ⟨5, ![2, 1, 96, 224, 224]⟩
abbrev S2x2x96x224x224 : Shape := ⟨5, ![2, 2, 96, 224, 224]⟩

abbrev nBuf : Space → Nat
  | .hbm => 61
  | .vmem => 0
  | .smem => 0
  | _ => 0

abbrev bufTy : (tb : Table) → Fin (tcTables nBuf tb) → BufTy
  | .hbm, ⟨0, _⟩ => ⟨S2x2x96x112x112, .f32⟩
  | .hbm, ⟨1, _⟩ => ⟨S2x96x112x112, .i32⟩
  | .hbm, ⟨2, _⟩ => ⟨S2x1x96x112x112, .f32⟩
  | .hbm, ⟨3, _⟩ => ⟨S2x96x112x112, .f32⟩
  | .hbm, ⟨4, _⟩ => ⟨S192x12544, .f32⟩
  | .hbm, ⟨5, _⟩ => ⟨S192x12544, .i32⟩
  | .hbm, ⟨6, _⟩ => ⟨S_, .f32⟩
  | .hbm, ⟨7, _⟩ => ⟨S192x50176, .f32⟩
  | .hbm, ⟨8, _⟩ => ⟨S192, .i32⟩
  | .hbm, ⟨9, _⟩ => ⟨S192x1, .i32⟩
  | .hbm, ⟨10, _⟩ => ⟨S_, .i32⟩
  | .hbm, ⟨11, _⟩ => ⟨S192x1, .i32⟩
  | .hbm, ⟨12, _⟩ => ⟨S192x1, .i1⟩
  | .hbm, ⟨13, _⟩ => ⟨S_, .i32⟩
  | .hbm, ⟨14, _⟩ => ⟨S192x1, .i32⟩
  | .hbm, ⟨15, _⟩ => ⟨S192x1, .i32⟩
  | .hbm, ⟨16, _⟩ => ⟨S192x1, .i32⟩
  | .hbm, ⟨17, _⟩ => ⟨S_, .i32⟩
  | .hbm, ⟨18, _⟩ => ⟨S192x12544, .i32⟩
  | .hbm, ⟨19, _⟩ => ⟨S192x12544, .i1⟩
  | .hbm, ⟨20, _⟩ => ⟨S_, .i32⟩
  | .hbm, ⟨21, _⟩ => ⟨S192x12544, .i32⟩
  | .hbm, ⟨22, _⟩ => ⟨S192x12544, .i32⟩
  | .hbm, ⟨23, _⟩ => ⟨S192x12544, .i32⟩
  | .hbm, ⟨24, _⟩ => ⟨S192x12544, .i32⟩
  | .hbm, ⟨25, _⟩ => ⟨S192x12544x1, .i32⟩
  | .hbm, ⟨26, _⟩ => ⟨S192x12544x1, .i32⟩
  | .hbm, ⟨27, _⟩ => ⟨S192x12544x2, .i32⟩
  | .hbm, ⟨28, _⟩ => ⟨S192x50176, .f32⟩
  | .hbm, ⟨29, _⟩ => ⟨S2x96x224x224, .f32⟩
  | .hbm, ⟨30, _⟩ => ⟨S2x1x96x112x112, .f32⟩
  | .hbm, ⟨31, _⟩ => ⟨S2x96x112x112, .f32⟩
  | .hbm, ⟨32, _⟩ => ⟨S192x12544, .f32⟩
  | .hbm, ⟨33, _⟩ => ⟨S192x12544, .i32⟩
  | .hbm, ⟨34, _⟩ => ⟨S_, .f32⟩
  | .hbm, ⟨35, _⟩ => ⟨S192x50176, .f32⟩
  | .hbm, ⟨36, _⟩ => ⟨S192, .i32⟩
  | .hbm, ⟨37, _⟩ => ⟨S192x1, .i32⟩
  | .hbm, ⟨38, _⟩ => ⟨S_, .i32⟩
  | .hbm, ⟨39, _⟩ => ⟨S192x1, .i32⟩
  | .hbm, ⟨40, _⟩ => ⟨S192x1, .i1⟩
  | .hbm, ⟨41, _⟩ => ⟨S_, .i32⟩
  | .hbm, ⟨42, _⟩ => ⟨S192x1, .i32⟩
  | .hbm, ⟨43, _⟩ => ⟨S192x1, .i32⟩
  | .hbm, ⟨44, _⟩ => ⟨S192x1, .i32⟩
  | .hbm, ⟨45, _⟩ => ⟨S_, .i32⟩
  | .hbm, ⟨46, _⟩ => ⟨S192x12544, .i32⟩
  | .hbm, ⟨47, _⟩ => ⟨S192x12544, .i1⟩
  | .hbm, ⟨48, _⟩ => ⟨S_, .i32⟩
  | .hbm, ⟨49, _⟩ => ⟨S192x12544, .i32⟩
  | .hbm, ⟨50, _⟩ => ⟨S192x12544, .i32⟩
  | .hbm, ⟨51, _⟩ => ⟨S192x12544, .i32⟩
  | .hbm, ⟨52, _⟩ => ⟨S192x12544, .i32⟩
  | .hbm, ⟨53, _⟩ => ⟨S192x12544x1, .i32⟩
  | .hbm, ⟨54, _⟩ => ⟨S192x12544x1, .i32⟩
  | .hbm, ⟨55, _⟩ => ⟨S192x12544x2, .i32⟩
  | .hbm, ⟨56, _⟩ => ⟨S192x50176, .f32⟩
  | .hbm, ⟨57, _⟩ => ⟨S2x96x224x224, .f32⟩
  | .hbm, ⟨58, _⟩ => ⟨S2x1x96x224x224, .f32⟩
  | .hbm, ⟨59, _⟩ => ⟨S2x1x96x224x224, .f32⟩
  | .hbm, ⟨60, _⟩ => ⟨S2x2x96x224x224, .f32⟩
  | _, _ => ⟨S2x2x96x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Proof.InPlane.lean ====
/-
  The precondition read back: where `indices_in_plane` holds, every index word, read as a natural number, is below 50176,
  the number of positions of a plane.
-/
module

public import proofs.«01_k».proof.Proof.Gen.Pre_indices_in_plane
public import Idealize.ShloMosaic.Lib.ReduceAll
public import Idealize.ShloMosaic.Lib.WordCmp

@[expose] public section

noncomputable section

namespace Cert.Proof

open Idealize.ShloMosaic Cert.Pre_indices_in_plane Cert.Pre_indices_in_plane.Facts

/-- Where the precondition is true, each index word names a position of a plane. -/
theorem in_plane {F : FTy → Type} [FloatOps F] (x : FVec F S2x2x96x112x112 .f32) (ind : IVec S2x96x112x112 32)
    (h : Cert.Pre_indices_in_plane.fn (F := F) x ind = fun _ => 1#1) (i : S2x96x112x112.Idx) : (ind i).toNat < 50176 := by
  haveI : Subsingleton S_.Idx := ⟨fun a b => funext fun q => q.elim0⟩
  have h0 := congrFun h fun q => q.elim0
  obtain ⟨hge, hlt⟩ := (IntOp.andi_eq_one).1 h0
  have e0 : IntOp.cmpi .sge (ind i) 0#32 = 1#1 := Host.reduce_andi_all _ _ reducesTo_S2x96x112x112_S_d0_1_2_3 h_S_ _ hge i
  have e1 : IntOp.cmpi .slt (ind i) 50176#32 = 1#1 := Host.reduce_andi_all _ _ reducesTo_S2x96x112x112_S_d0_1_2_3 h_S_ _ hlt i
  rw [WordCmp.cmpi_sge_zero, WordCmp.ofBool_decide_eq_one_iff] at e0
  rw [WordCmp.cmpi_slt_of_lt e0 (by decide), WordCmp.ofBool_decide_eq_one_iff] at e1
  exact e1

end Cert.Proof

end
-- ==== Proof.Spec.lean ====
/-
  What unpooling computes, apart from any program: a position of a plane takes the value of the LAST entry of the
  index row that names it, and zero where no entry does. `lastHit` is that value; the lemmas say how it is reached
  sixteen entries at a time, that what lay underneath does not matter where some entry hits, and that writing zeros
  at the positions once written gives back zeros.
-/
module

public import Idealize.ShloMosaic.PureOps.ShapeOps
public import Idealize.ShloMosaic.Lib.ValueIdxCore

@[expose] public section

noncomputable section

namespace Cert.Proof.Unpool

open Idealize.ShloMosaic
open Idealize.ShloMosaic.ValueIdx (ix2)

/-! ## The last entry that hits -/

section LastHit

variable {α : Type} (hit : ℕ → Prop) [DecidablePred hit] (v : ℕ → α) (b : α)

/-- The value of the last of the first `n` entries that hit, `b` when none does. -/
def lastHit : ℕ → α
  | 0 => b
  | n + 1 => if hit n then v n else lastHit n

/-- No entry: the base. -/
theorem lastHit_zero : lastHit hit v b 0 = b := rfl
/-- One entry more: its value where it hits. -/
theorem lastHit_succ (n : ℕ) : lastHit hit v b (n + 1) = if hit n then v n else lastHit hit v b n := rfl

/-- The first `m` entries, then the next `n` over what they left. -/
theorem lastHit_add (m n : ℕ) :
    lastHit hit v b (m + n) = lastHit (fun i => hit (m + i)) (fun i => v (m + i)) (lastHit hit v b m) n := by
  induction n with
  | zero => rfl
  | succ n ih => rw [← Nat.add_assoc, lastHit_succ, lastHit_succ, ih]

/-- Going over the same entries again, with other values, forgets the first pass where they hit; over the first
    pass's base it is as though it had not been. -/
theorem lastHit_again (v' : ℕ → α) (n : ℕ) : lastHit hit v (lastHit hit v' b n) n = lastHit hit v b n := by
  induction n with
  | zero => rfl
  | succ n ih =>
    rw [lastHit_succ hit v _ n, lastHit_succ hit v b n]
    by_cases h : hit n
    · rw [if_pos h, if_pos h]
    · rw [if_neg h, if_neg h, lastHit_succ, if_neg h]; exact ih

/-- Entries that all hold the base leave it. -/
theorem lastHit_const (n : ℕ) : lastHit hit (fun _ => b) b n = b := by
  induction n with
  | zero => rfl
  | succ n ih => rw [lastHit_succ, ih, ite_self]

/-- Writing the base at the entries' positions undoes them. -/
theorem lastHit_undo (n : ℕ) : lastHit hit (fun _ => b) (lastHit hit v b n) n = b :=
  (lastHit_again hit (fun _ => b) b v n).trans (lastHit_const hit b n)

variable {hit v b} in
theorem lastHit_congr {hit' : ℕ → Prop} [DecidablePred hit'] {v' : ℕ → α} {n : ℕ} (hh : ∀ i < n, hit i ↔ hit' i) (hv : ∀ i < n, v i = v' i) :
    lastHit hit v b n = lastHit hit' v' b n := by
  induction n with
  | zero => rfl
  | succ n ih =>
    rw [lastHit_succ, lastHit_succ, ih (fun i hi => hh i (Nat.lt_succ_of_lt hi)) (fun i hi => hv i (Nat.lt_succ_of_lt hi)), hv n (Nat.lt_succ_self n)]
    exact if_congr (hh n (Nat.lt_succ_self n)) rfl rfl

/-- A fold of pointwise updates over `Fin n`, read at one point, is the last hit there. -/
theorem foldl_finRange_eq_lastHit {ι : Type} (n : ℕ) (step : (ι → α) → Fin n → ι → α) (j : ι)
    (hstep : ∀ (g : ι → α) (k : Fin n), step g k j = if hit k.val then v k.val else g j) (f : ι → α) :
    (List.finRange n).foldl step f j = lastHit hit v (f j) n := by
  induction n with
  | zero => rfl
  | succ n ih =>
    rw [List.finRange_succ_last, List.foldl_append, List.foldl_map, List.foldl_cons, List.foldl_nil, hstep, Fin.val_last, lastHit_succ]
    exact congrArg (fun x => if hit n then v n else x) (ih (fun g k => step g k.castSucc) fun g k => hstep g k.castSucc)

end LastHit

/-! ## An indexed store -/

variable {F : FTy → Type} [FloatOps F]

/-- An unmasked indexed store of `n` lanes into a one-axis array, read at one element: the last lane that names it. -/
theorem storeIdx_apply {n N : ℕ} {e : EltTy} (f : Vec F ⟨1, ![N]⟩ e) (idx : IVec ⟨1, ![n]⟩ 32) (v : Vec F ⟨1, ![n]⟩ e)
    (h : ∀ a x, ((![idx] : Fin 1 → IVec ⟨1, ![n]⟩ 32) a x).toNat < (⟨1, ![N]⟩ : Shape).size a) (j : Shape.Idx ⟨1, ![N]⟩)
    (hit : ℕ → Prop) [DecidablePred hit] (w : ℕ → Elt F e)
    (hhit : ∀ k : Fin n, hit k.val ↔ (idx (Shape.ofLane (d := ![n]) k)).toNat = (j 0).val)
    (hw : ∀ k : Fin n, w k.val = v (Shape.ofLane (d := ![n]) k)) :
    storeIdx f (![idx] : Fin 1 → IVec ⟨1, ![n]⟩ 32) v (fun _ => 1#1) false h j = lastHit hit w (f j) n := by
  refine foldl_finRange_eq_lastHit hit w n _ j (fun g k => ?_) f
  have hk : (∀ a, (j a).val = (idxAt (![idx] : Fin 1 → IVec ⟨1, ![n]⟩ 32) h (Shape.ofLane (d := ![n]) k) a).val) ↔ hit k.val := by
    rw [hhit k]
    refine ⟨fun H => (H 0).symm, fun H a => ?_⟩
    match a with
    | 0 => exact H.symm
  refine (congrFun (if_pos (rfl : (1#1 : BitVec 1) = 1)) j).trans ?_
  refine (if_congr hk rfl rfl).trans ?_
  by_cases h : hit k.val
  · rw [if_pos h, if_pos h, hw k]; rfl
  · rw [if_neg h, if_neg h]

/-! ## The result, plane by plane

Row `r` of the result is one plane of 224 × 224 = 50176 positions. The 384 planes are 2 batches of 2 frames of 96
channels; the 192 rows of indices are 2 batches of 96 channels, each serving both frames. -/

/-- The index row that plane `r` is unpooled by: its batch and channel, the frame dropped. -/
def pairRow (r : Fin 384) : Fin 192 := ⟨r.val / 192 * 96 + r.val % 96, by omega⟩

/-- Plane of index row `p`'s batch and channel at frame `t`. -/
def planeRow (p : Fin 192) (t : Fin 2) : Fin 384 := ⟨p.val / 96 * 192 + t.val * 96 + p.val % 96, by omega⟩

/-- A plane's index row is the one it was made from. -/
theorem pairRow_planeRow (p : Fin 192) (t : Fin 2) : pairRow (planeRow p t) = p :=
  Fin.ext (show (p.val / 96 * 192 + t.val * 96 + p.val % 96) / 192 * 96 + (p.val / 96 * 192 + t.val * 96 + p.val % 96) % 96 = p.val by omega)

/-- The subcore (counted over both SparseCores) that works on plane `r`: each takes six consecutive index rows. -/
def owner (r : Fin 384) : ℕ := (pairRow r).val / 6

/-- When its subcore writes plane `r` out: the twelve planes of a subcore in turn. -/
def slot (r : Fin 384) : ℕ := 2 * ((pairRow r).val % 6) + r.val % 192 / 96

/-- Row `r` of a table, as a one-axis array. -/
def rowOf {α : Type} {R N : ℕ} (X : (⟨2, ![R, N]⟩ : Shape).Idx → α) (r : Fin R) : (⟨1, ![N]⟩ : Shape).Idx → α := fun j => X (ix2 r (j 0))

/-- Entry `l` of a one-axis array of `N` entries (`l` counted modulo `N`). -/
def entry {α : Type} {N : ℕ} [NeZero N] (x : (⟨1, ![N]⟩ : Shape).Idx → α) (l : ℕ) : α := x fun | 0 => Fin.ofNat N l

/-- A plane after the first `n` entries of the index row `io`, with values `xo`, over what it held before. -/
def after {α : Type} (io : (⟨1, ![12544]⟩ : Shape).Idx → BitVec 32) (xo : (⟨1, ![12544]⟩ : Shape).Idx → α) (n : ℕ)
    (oo : (⟨1, ![50176]⟩ : Shape).Idx → α) : (⟨1, ![50176]⟩ : Shape).Idx → α :=
  fun j => lastHit (fun l => (entry io l).toNat = (j 0).val) (entry xo) (oo j) n

/-- Plane `r` of the result: the values of row `r` of `X` placed at the positions its index row names, `z` elsewhere. -/
def plane {α : Type} (X : (⟨2, ![384, 12544]⟩ : Shape).Idx → α) (I : (⟨2, ![192, 12544]⟩ : Shape).Idx → BitVec 32) (z : α) (r : Fin 384) :
    (⟨1, ![50176]⟩ : Shape).Idx → α := after (rowOf I (pairRow r)) (rowOf X r) 12544 fun _ => z

/-- The result. -/
def unpool {α : Type} (X : (⟨2, ![384, 12544]⟩ : Shape).Idx → α) (I : (⟨2, ![192, 12544]⟩ : Shape).Idx → BitVec 32) (z : α) :
    (⟨2, ![384, 50176]⟩ : Shape).Idx → α := fun j => plane X I z (j 0) fun | 0 => j 1

/-- Before the first entry the plane is as it was. -/
theorem after_zero {α : Type} (io : (⟨1, ![12544]⟩ : Shape).Idx → BitVec 32) (xo : (⟨1, ![12544]⟩ : Shape).Idx → α)
    (oo : (⟨1, ![50176]⟩ : Shape).Idx → α) : after io xo 0 oo = oo := rfl

/-- The second frame's values over the first frame's plane give the second frame's plane. -/
theorem plane_second {α : Type} (X : (⟨2, ![384, 12544]⟩ : Shape).Idx → α) (I : (⟨2, ![192, 12544]⟩ : Shape).Idx → BitVec 32) (z : α) (p : Fin 192)
    (t t' : Fin 2) : after (rowOf I p) (rowOf X (planeRow p t')) 12544 (plane X I z (planeRow p t)) = plane X I z (planeRow p t') := by
  unfold plane
  rw [pairRow_planeRow, pairRow_planeRow]
  exact funext fun j => lastHit_again _ _ _ _ _

/-- The first frame's values over a cleared plane give the first frame's plane. -/
theorem plane_first {α : Type} (X : (⟨2, ![384, 12544]⟩ : Shape).Idx → α) (I : (⟨2, ![192, 12544]⟩ : Shape).Idx → BitVec 32) (z : α) (p : Fin 192)
    (t : Fin 2) : after (rowOf I p) (rowOf X (planeRow p t)) 12544 (fun _ => z) = plane X I z (planeRow p t) := by
  unfold plane
  rw [pairRow_planeRow]

/-- Clearing the positions the index row names clears the plane. -/
theorem plane_cleared {α : Type} (X : (⟨2, ![384, 12544]⟩ : Shape).Idx → α) (I : (⟨2, ![192, 12544]⟩ : Shape).Idx → BitVec 32) (z : α) (p : Fin 192)
    (t : Fin 2) : after (rowOf I p) (fun _ => z) 12544 (plane X I z (planeRow p t)) = fun _ => z := by
  unfold plane
  rw [pairRow_planeRow]
  exact funext fun j => lastHit_undo _ _ _ _

/-- Sixteen entries more, stored by one indexed store. -/
theorem after_store {e : EltTy} (io : (⟨1, ![12544]⟩ : Shape).Idx → BitVec 32) (xo : (⟨1, ![12544]⟩ : Shape).Idx → Elt F e) (n : ℕ)
    (oo : (⟨1, ![50176]⟩ : Shape).Idx → Elt F e) (idx : IVec ⟨1, ![16]⟩ 32) (v : Vec F ⟨1, ![16]⟩ e)
    (h : ∀ a x, ((![idx] : Fin 1 → IVec ⟨1, ![16]⟩ 32) a x).toNat < (⟨1, ![50176]⟩ : Shape).size a)
    (hidx : ∀ k : Fin 16, idx (Shape.ofLane (d := ![16]) k) = entry io (n + k.val))
    (hv : ∀ k : Fin 16, v (Shape.ofLane (d := ![16]) k) = entry xo (n + k.val)) :
    storeIdx (after io xo n oo) (![idx] : Fin 1 → IVec ⟨1, ![16]⟩ 32) v (fun _ => 1#1) false h = after io xo (n + 16) oo := by
  funext j
  rw [storeIdx_apply (after io xo n oo) idx v h j (fun l => (entry io (n + l)).toNat = (j 0).val) (fun l => entry xo (n + l))
    (fun k => by rw [hidx k]) fun k => (hv k).symm]
  exact (lastHit_add (fun l => (entry io l).toNat = (j 0).val) (entry xo) (oo j) n 16).symm

end Cert.Proof.Unpool
-- ==== Proof.Base.lean ====
/-
  The kernel's program as the proof sees it: the launch theorem's configuration, the resource algebra (the handshakes'
  rounds beside the transfers' counters), the tile's memrefs and arrays, and the geometry of one row of a table: which
  elements its view has, what reading and writing through it do. Then the rows a tile works on, from the offsets the
  program computes.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Tactic
public import proofs.«01_k».proof.Proof.Spec
public import proofs.«01_k».proof.Proof.Gen.Kernel
public import proofs.«01_k».proof.Proof.Gen.Kernel.Skeleton

@[expose] public section

noncomputable section

namespace Cert.Proof.Kernel

open Cert.Kernel Cert.Kernel.Gen Cert.Proof.Unpool

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call meets its stated side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds; the transfers' counters are found by instance. -/
abbrev EH : Emb UH (MT nD τ sig (HIx 1) (Elt F) ℕ UU ℕ) := embL

/-! ## The tile's memrefs, and the arrays of HBM -/

abbrev xV : Memref sig .scVector .hbm S384x12544 .f32 := Memref.whole main_v0_scv
abbrev iV : Memref sig .scVector .hbm S192x12544 .i32 := Memref.whole main_v1_scv
abbrev oV : Memref sig .scVector .hbm S384x50176 .f32 := Memref.whole main_v2_scv
/-- A tile's scratch: the index row, the value row, the plane. -/
abbrev sI : Memref sig .scVector .vmem S12544 .i32 := Memref.whole cc0_scratch0
abbrev sX : Memref sig .scVector .vmem S12544 .f32 := Memref.whole cc0_scratch1
abbrev sO : Memref sig .scVector .vmem S50176 .f32 := Memref.whole cc0_scratch2

abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0

/-- Row `off` of a table, as a one-axis memref: the index rows, the value rows and the planes. -/
abbrev iRow (off : Fin 2 → ℕ) (inb : ∀ a, off a + S1x12544.size a ≤ S192x12544.size a) : Memref sig .scVector .hbm S12544 .i32 :=
  (iV.slice (Rect.unit (s := S192x12544) off S1x12544.size inb) (fun _ => rfl)).squeeze S12544 squeezes_S1x12544_S12544
abbrev xRow (off : Fin 2 → ℕ) (inb : ∀ a, off a + S1x12544.size a ≤ S384x12544.size a) : Memref sig .scVector .hbm S12544 .f32 :=
  (xV.slice (Rect.unit (s := S384x12544) off S1x12544.size inb) (fun _ => rfl)).squeeze S12544 squeezes_S1x12544_S12544
abbrev oRow (off : Fin 2 → ℕ) (inb : ∀ a, off a + S1x50176.size a ≤ S384x50176.size a) : Memref sig .scVector .hbm S50176 .f32 :=
  (oV.slice (Rect.unit (s := S384x50176) off S1x50176.size inb) (fun _ => rfl)).squeeze S50176 squeezes_S1x50176_S50176

/-! ## One row of a table -/

/-- Element `j` of row `p`, seen as a one-row block of the table with its leading axis dropped. -/
theorem row_emb {R N : ℕ} (off : Fin 2 → ℕ) (inb : ∀ a, off a + (⟨2, ![1, N]⟩ : Shape).size a ≤ (⟨2, ![R, N]⟩ : Shape).size a)
    (h : (⟨1, ![N]⟩ : Shape).numel = (⟨2, ![1, N]⟩ : Shape).numel) (p : Fin R) (hoff : off = ![p.val, 0]) (j : (⟨1, ![N]⟩ : Shape).Idx) :
    (Rect.unit (s := (⟨2, ![R, N]⟩ : Shape)) off (⟨2, ![1, N]⟩ : Shape).size inb).emb (Shape.reshapeEquiv h j) = ix2 p (j 0) := by
  subst hoff
  have hj : Shape.reshapeEquiv h j = Fin.cons ⟨0, Nat.one_pos⟩ j := Shape.reshapeEquiv_cons_one h j
  rw [hj]
  funext a
  match a with
  | 0 => exact Fin.ext (show p.val + 1 * 0 = p.val by omega)
  | 1 => exact Fin.ext (show 0 + 1 * (j 0).val = (j 0).val by omega)

variable {off : Fin 2 → ℕ}

/-- Reading row `p` of the index table through its view gives that row. -/
theorem iRow_read {inb} {p : Fin 192} (hoff : off = ![p.val, 0]) (I : S192x12544.Idx → Elt F .i32) :
    (iRow off inb).view.read (Elt F) I = rowOf I p :=
  funext fun j => congrArg I (row_emb off inb _ p hoff j)

/-- Reading row `r` of the value table through its view gives that row. -/
theorem xRow_read {inb} {r : Fin 384} (hoff : off = ![r.val, 0]) (X : S384x12544.Idx → Elt F .f32) :
    (xRow off inb).view.read (Elt F) X = rowOf X r :=
  funext fun j => congrArg X (row_emb off inb _ r hoff j)

/-- Position `j` of the view of result row `r` is the result's position `(r, j)`. -/
theorem oRow_emb {inb} {r : Fin 384} (hoff : off = ![r.val, 0]) (j : S50176.Idx) : (oRow off inb).view.emb j = ix2 r (j 0) :=
  row_emb off inb _ r hoff j

/-- The view of result row `r` lies in that row. -/
theorem oRow_set {inb} {r : Fin 384} (hoff : off = ![r.val, 0]) {i : S384x50176.Idx} (hi : i ∈ (oRow off inb).view.set) : i 0 = r := by
  obtain ⟨j, -, rfl⟩ := Finset.mem_map.mp hi
  rw [oRow_emb hoff]

/-- Writing a plane through its row's view: that row of the table is the plane, the others are as they were. -/
theorem oRow_write {inb} {r : Fin 384} (hoff : off = ![r.val, 0]) (fd : S384x50176.Idx → Elt F .f32) (w : S50176.Idx → Elt F .f32) (i : S384x50176.Idx) :
    (oRow off inb).view.write (Elt F) fd w Finset.univ i = if (i 0).val = r.val then w (fun | 0 => i 1) else fd i := by
  by_cases hi : (i 0).val = r.val
  · rw [if_pos hi]
    have he : i = (oRow off inb).view.emb (fun | 0 => i 1) := by
      rw [oRow_emb hoff, ← (Fin.ext hi : i 0 = r)]; exact eq_ix2 i
    conv_lhs => rw [he]
    exact View.write_emb_of_mem _ _ (Finset.mem_univ _)
  · rw [if_neg hi]
    exact View.write_of_not_mem _ _ _ fun h => hi (congrArg Fin.val (oRow_set hoff (by rwa [View.setOn_univ] at h)))

/-! ## The rows a tile works on -/

/-- The tile's number, both SparseCores counted. -/
def tileNo (L : grid0.Coords) : ℕ := 2 * (L 1).val + (L 0).val

/-- There are 32 tiles. -/
theorem tileNo_lt (L : grid0.Coords) : tileNo L < 32 := by
  have h0 : (L 0).val < 2 := (L 0).isLt
  have h1 : (L 1).val < 16 := (L 1).isLt
  unfold tileNo; omega

/-- Its `k`-th index row. -/
def pairOf (L : grid0.Coords) (k : Fin 6) : Fin 192 := ⟨tileNo L * 6 + k.val, by have := tileNo_lt L; omega⟩

/-- The tile's coordinates from its two numbers. -/
def coordsV (c : Fin (grid0.bound 0)) (s : Fin (grid0.bound 1)) : grid0.Coords :=
  fun | 0 => c | 1 => s | ⟨_ + 2, h⟩ => absurd h (Nat.not_lt.2 (Nat.le_add_left _ _))

/-- A tile's coordinates are made of its two numbers. -/
theorem coordsV_eq (L : grid0.Coords) : L = coordsV (L 0) (L 1) := by
  funext a
  match a with
  | 0 => rfl
  | 1 => rfl

/-- The index copy of step `k` starts at the step's index row. -/
theorem off2_eq (L : grid0.Coords) (k : Fin 6) : k0_off2 L (BitVec.ofNat 32 k.val) = ![(pairOf L k).val, 0] := by
  rw [coordsV_eq L]
  have h : ∀ (c : Fin 2) (s : Fin 16) (k : Fin 6), k0_off2 (coordsV c s) (BitVec.ofNat 32 k.val) = ![(pairOf (coordsV c s) k).val, 0] := by decide +kernel
  exact h (L 0) (L 1) k

/-- The value copy of step `k`, frame `t`, starts at that frame's plane row. -/
theorem off3_eq (L : grid0.Coords) (k : Fin 6) (t : Fin 2) :
    k0_off3 L (BitVec.ofNat 32 k.val) (BitVec.ofNat 32 (96 * t.val)) = ![(planeRow (pairOf L k) t).val, 0] := by
  rw [coordsV_eq L]
  have h : ∀ (c : Fin 2) (s : Fin 16) (k : Fin 6) (t : Fin 2),
      k0_off3 (coordsV c s) (BitVec.ofNat 32 k.val) (BitVec.ofNat 32 (96 * t.val)) = ![(planeRow (pairOf (coordsV c s) k) t).val, 0] := by decide +kernel
  exact h (L 0) (L 1) k t

/-- The copy out of step `k`, frame `t`, starts at that frame's plane row. -/
theorem off5_eq (L : grid0.Coords) (k : Fin 6) (t : Fin 2) :
    k0_off5 L (BitVec.ofNat 32 k.val) (BitVec.ofNat 32 (96 * t.val)) = ![(planeRow (pairOf L k) t).val, 0] := by
  rw [coordsV_eq L]
  have h : ∀ (c : Fin 2) (s : Fin 16) (k : Fin 6) (t : Fin 2),
      k0_off5 (coordsV c s) (BitVec.ofNat 32 k.val) (BitVec.ofNat 32 (96 * t.val)) = ![(planeRow (pairOf (coordsV c s) k) t).val, 0] := by decide +kernel
  exact h (L 0) (L 1) k t

/-- The elements of the result in the tile's planes. -/
def mine (L : grid0.Coords) : Finset S384x50176.Idx := Finset.univ.filter fun i => owner (i 0) = tileNo L

/-- A tile owns the planes of its index rows. -/
theorem owner_planeRow (L : grid0.Coords) (k : Fin 6) (t : Fin 2) : owner (planeRow (pairOf L k) t) = tileNo L := by
  unfold owner
  rw [pairRow_planeRow]
  have := k.isLt
  show (tileNo L * 6 + k.val) / 6 = tileNo L
  omega

/-- The planes are written in the order of the steps, frame 0 before frame 1. -/
theorem slot_planeRow (L : grid0.Coords) (k : Fin 6) (t : Fin 2) : slot (planeRow (pairOf L k) t) = 2 * k.val + t.val := by
  unfold slot
  rw [pairRow_planeRow]
  have hk := k.isLt
  have ht := t.isLt
  have hw := tileNo_lt L
  show 2 * ((tileNo L * 6 + k.val) % 6) + ((tileNo L * 6 + k.val) / 96 * 192 + t.val * 96 + (tileNo L * 6 + k.val) % 96) % 192 / 96 = _
  omega

/-- A plane is settled by its subcore and its turn. -/
theorem eq_planeRow (L : grid0.Coords) {r : Fin 384} {k : Fin 6} {t : Fin 2} (ho : owner r = tileNo L) (hs : slot r = 2 * k.val + t.val) :
    r = planeRow (pairOf L k) t := by
  have hk := k.isLt
  have ht := t.isLt
  have hr := r.isLt
  unfold owner pairRow at ho
  unfold slot pairRow at hs
  apply Fin.ext
  show r.val = (tileNo L * 6 + k.val) / 96 * 192 + t.val * 96 + (tileNo L * 6 + k.val) % 96
  simp only at ho hs
  have hp : r.val / 192 * 96 + r.val % 96 = tileNo L * 6 + k.val := by omega
  rw [← hp]
  omega

/-- The view of a plane of the tile lies in what the tile owns. -/
theorem oRow_mine {inb} (L : grid0.Coords) (k : Fin 6) (t : Fin 2) (hoff : off = ![(planeRow (pairOf L k) t).val, 0]) :
    (oRow off inb).view.set ⊆ mine L := fun i hi =>
  Finset.mem_filter.mpr ⟨Finset.mem_univ _, by rw [oRow_set hoff hi]; exact owner_planeRow L k t⟩

/-! ## The result while the tile writes it -/

/-- What the result holds in the tile's planes after `n` of them are written: those, and what it held before. -/
def upTo (OUT ob : S384x50176.Idx → Elt F .f32) (n : ℕ) : S384x50176.Idx → Elt F .f32 := fun i => if slot (i 0) < n then OUT i else ob i

/-- Before the first write the result is as it was. -/
theorem upTo_zero (OUT ob : S384x50176.Idx → Elt F .f32) : upTo OUT ob 0 = ob := funext fun _ => if_neg (Nat.not_lt_zero _)

/-- A tile writes twelve planes. -/
theorem slot_lt (r : Fin 384) : slot r < 12 := by unfold slot; omega

/-- After the twelfth write it is the unpooled result. -/
theorem upTo_all (OUT ob : S384x50176.Idx → Elt F .f32) : upTo OUT ob 12 = OUT := funext fun _ => if_pos (slot_lt _)

/-- One more plane written out. -/
theorem upTo_write {inb} (L : grid0.Coords) (k : Fin 6) (t : Fin 2) (hoff : off = ![(planeRow (pairOf L k) t).val, 0])
    (OUT ob : S384x50176.Idx → Elt F .f32) (w : S50176.Idx → Elt F .f32) (hw : ∀ i, i 0 = planeRow (pairOf L k) t → OUT i = w (fun | 0 => i 1))
    {n : ℕ} (hn : n = 2 * k.val + t.val) {i : S384x50176.Idx} (hi : i ∈ mine L) :
    (oRow off inb).view.write (Elt F) (upTo OUT ob n) w Finset.univ i = upTo OUT ob (n + 1) i := by
  rw [oRow_write hoff]
  have ho : owner (i 0) = tileNo L := (Finset.mem_filter.mp hi).2
  unfold upTo
  by_cases h : (i 0).val = (planeRow (pairOf L k) t).val
  · have h' : i 0 = planeRow (pairOf L k) t := Fin.ext h
    rw [if_pos h, if_pos (by rw [h', slot_planeRow]; omega), hw i h']
  · rw [if_neg h]
    have : slot (i 0) ≠ n := fun e => h (congrArg Fin.val (eq_planeRow L ho (e.trans hn)))
    by_cases h' : slot (i 0) < n
    · rw [if_pos h', if_pos (by omega)]
    · rw [if_neg h', if_neg (by omega)]

end Cert.Proof.Kernel
-- ==== Proof.Steps.lean ====
/-
  The tile's steps. `St` is what the tile holds between two of them, contents included. Each step is a rule that runs
  backwards: the state after it proves the rest of the program, so the state before it proves the step and the rest. A
  copy and its wait are one step (in: a row of a table to a scratch; out: the plane to its row of the result). A loop is
  one step over the specification of its trip.
-/
module

public import proofs.«01_k».proof.Proof.Base

@[expose] public section

noncomputable section

namespace Cert.Proof.Kernel

open Cert.Kernel Cert.Kernel.Gen Cert.Proof.Unpool

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig (HIx 1) (Elt F) ℕ UU ℕ

variable (d : Dev nD) (L : grid0.Coords)

/-- The tile's thread. -/
abbrev thr : Thread nD τ := V d (cV L) (jV L)

section State

variable (O : CellTallies nD τ sig (HIx 1)) (W : Waits sig (HIx 1)) (q : PosShare TreeShare)
  (X : S384x12544.Idx → Elt F .f32) (I : S192x12544.Idx → BitVec 32)

/-- What the tile holds besides the planes of the result and its three scratches: leave to wait, the read shares of the
    two tables, its semaphores at zero, and its account with the waits it has made. -/
def Rest : sProp 𝕄 :=
  iprop(Transfers.MayWaits (thr d L) none O ∗ ((xV.view.loc (thr d L)) ↦{q} X) ∗ ((iV.view.loc (thr d L)) ↦{q} I)
    ∗ ownSems0 (thr d L) ∗ ∃ W', ⌜∀ p ∈ W', p ∈ W ∨ p.2 = none⌝ ∗ owes (thr d L) O W')

/-- What the tile holds between two steps: the result at `ob` in its own planes, the index row, the value row, the plane. -/
def St (ob : S384x50176.Idx → Elt F .f32) (io : S12544.Idx → BitVec 32) (xo : S12544.Idx → Elt F .f32) (oo : S50176.Idx → Elt F .f32) : sProp 𝕄 :=
  iprop(Rest d L O W q X I ∗ ((oV.view.loc (thr d L)) ↦[mine L]{fullShare} ob) ∗ ((sI.view.loc (thr d L)) ↦{fullShare} io)
    ∗ ((sX.view.loc (thr d L)) ↦{fullShare} xo) ∗ ((sO.view.loc (thr d L)) ↦{fullShare} oo))

end State

abbrev WP {α : Type} (e : Prog (TpuEff nD τ sig (Elt F) Λ₀ (.scVector (cV L) (jV L))) α) (Q : α → sProp 𝕄) : sProp 𝕄 :=
  wp frame (wpE (defs₀ (F := F)) 𝒱₀ (thr d L) none) Set.univ e Q

variable {O : CellTallies nD τ sig (HIx 1)} {W : Waits sig (HIx 1)} {q : PosShare TreeShare}
  {X : S384x12544.Idx → Elt F .f32} {I : S192x12544.Idx → BitVec 32}
  {ob : S384x50176.Idx → Elt F .f32} {io : S12544.Idx → BitVec 32} {xo : S12544.Idx → Elt F .f32} {oo : S50176.Idx → Elt F .f32}
variable {α : Type} {Q : α → sProp (MT nD τ sig (HIx 1) (Elt F) ℕ UU ℕ)}

/-! ## A copy and its wait -/

/-- A copy within the tile and the wait for it, from the semaphore at zero back to it at zero: the target holds what the
    source held, and the account has one wait more, at no handshake's index. -/
theorem wp_copy {sp sp' : Space} {s : Shape} {e : EltTy} {src src' : Memref sig .scVector sp s e} {dst dst' : Memref sig .scVector sp' s e}
    {sem : DmaSem sig} {hsrc hdst hsem hsrc' hdst'} {k : PUnit → Prog (TpuEff nD τ sig (Elt F) Λ₀ (.scVector (cV L) (jV L))) α}
    (q' : PosShare TreeShare) (fs : Buf (Elt F) (src.view.loc (thr d L))) (Sd : Finset (Idx (dst.view.loc (thr d L)))) (fd : Buf (Elt F) (dst.view.loc (thr d L)))
    (hcred : dst'.view.dmaCredit = dst.view.amount (.dma sem)) (hN0 : 0 < dst.view.amount (.dma sem)) (hSd : dst.view.set ⊆ Sd) :
    iprop((src.view.loc (thr d L) ↦[src.view.set]{q'} fs) ∗ (dst.view.loc (thr d L) ↦[Sd]{fullShare} fd) ∗ semVal (thr d L, .dma sem) 0
        ∗ Transfers.MayWaits (thr d L) none O ∗ ∃ W', ⌜∀ p ∈ W', p ∈ W ∨ p.2 = none⌝ ∗ owes (thr d L) O W')
      ⊢ iprop((iprop((src.view.loc (thr d L) ↦[src.view.set]{q'} fs)
              ∗ (dst.view.loc (thr d L) ↦[Sd]{fullShare} dst.view.write (Elt F) fd (src.view.read (Elt F) fs) Finset.univ) ∗ semVal (thr d L, .dma sem) 0
              ∗ Transfers.MayWaits (thr d L) none O ∗ ∃ W', ⌜∀ p ∈ W', p ∈ W ∨ p.2 = none⌝ ∗ owes (thr d L) O W') -∗ WP d L (k ⟨⟩) Q)
          -∗ WP d L (.op (.enqueueDma src (.here dst) (.dma sem) hsrc hdst hsem) fun _ => .op (.waitDma2 sem src' dst' hsrc' hdst') k) Q) := by
  iintro ⟨Hs, Hd, Hsem, #HMW, %W', %hW', HO⟩ Hk
  iapply (Transfers.wp_dmaLocal (countersEmb (U := UU)) 𝒱₀ (thr d L) none (fs := fs) (fd := fd) none _ rfl hN0 hSd) $$ [Hs Hd Hsem]
  · isplitl [Hs]; · iexact Hs
    isplitl [Hd]; · iexact Hd
    iexact Hsem
  iintro HF
  iapply (Transfers.wp_waitLocalO (countersEmb (U := UU)) 𝒱₀ (thr d L) none none hcred) $$ [HF HO]
  · isplitl [HF]; · iexact HF
    isplitl [HO]; · iexact HO
    iapply (Transfers.MayWaits.elim (SemLoc.dma sem)); iexact HMW
  iintro ⟨⟨Hd, Hs⟩, Hsem, HO⟩
  iapply Hk
  isplitl [Hs]; · iexact Hs
  isplitl [Hd]; · iexact Hd
  isplitl [Hsem]; · iexact Hsem
  isplitr; · iexact HMW
  iexists (insert (SemLoc.dma sem, none) W')
  isplitr
  · ipureintro
    intro p hp
    rcases Finset.mem_insert.mp hp with rfl | hp
    · exact .inr rfl
    · exact hW' p hp
  iexact HO

/-- The tile's semaphores at zero are one of them and the others. -/
theorem ownSems0_take (sem : DmaSem sig) (h : (SemLoc.dma sem : SemLoc sig).isScoped .scVector = true) :
    (ownSems0 (thr d L) : sProp 𝕄)
      = iprop(semVal (thr d L, .dma sem) 0 ∗ bigSep ((ownCells (thr d L)).erase (thr d L, .dma sem)) fun g => semVal g 0) := by
  unfold SparseCore.Cfg.ownSems0
  exact SparseCore.bigSep_erase' ((mem_ownCells (g := (thr d L, .dma sem))).mpr ⟨rfl, h⟩)

/-- A read share of a whole array is a share of some of its elements and of the others. -/
theorem share_take {ℓ : Loc nD τ sig} (J : Finset (Idx ℓ)) (q : PosShare TreeShare) (f : Buf (Elt F) ℓ) :
    (ℓ ↦{q} f : sProp 𝕄) ⊣⊢ iprop((ℓ ↦[J]{q} f) ∗ ℓ ↦[Finset.univ \ J]{q} f) :=
  pointsTo_split_subset (Finset.subset_univ J)

/-- Fetch an index row. -/
theorem step_ind {off : Fin 2 → ℕ} {inb inb'} {sem : DmaSem sig} {hsrc hdst hsem hsrc' hdst'}
    {k : PUnit → Prog (TpuEff nD τ sig (Elt F) Λ₀ (.scVector (cV L) (jV L))) α} (p : Fin 192) (hoff : off = ![p.val, 0])
    (hsc : (SemLoc.dma sem : SemLoc sig).isScoped .scVector = true)
    (h : St d L O W q X I ob (rowOf I p) xo oo ⊢ WP d L (k ⟨⟩) Q) :
    St d L O W q X I ob io xo oo
      ⊢ WP d L (.op (.enqueueDma (iRow off inb) (.here sI) (.dma sem) hsrc hdst hsem) fun _ => .op (.waitDma2 sem (iRow off inb') sI hsrc' hdst') k) Q := by
  unfold St Rest at h ⊢
  rw [ownSems0_take d L sem hsc] at h ⊢
  iintro ⟨⟨#HMW, Hx, Hi, ⟨Hsem, Hsems⟩, HO⟩, Ho, HsI, HsX, HsO⟩
  ihave Hi' := (share_take (F := F) (iRow off inb).view.set q I).1 $$ Hi
  icases Hi' with ⟨Hrow, Hoth⟩
  iapply (wp_copy d L (O := O) (W := W) (Q := Q) (src := iRow off inb) (dst := sI) q I Finset.univ io rfl (View.amount_pos _ _ (by decide)) (Finset.subset_univ _)) $$ [Hrow HsI Hsem HO]
  · isplitl [Hrow]; · iexact Hrow
    isplitl [HsI]; · iexact HsI
    isplitl [Hsem]; · iexact Hsem
    isplitr; · iexact HMW
    iexact HO
  rw [show (sI.view.write (Elt F) io ((iRow off inb).view.read (Elt F) I) Finset.univ) = rowOf I p from
    (View.write_whole_univ _ _ _).trans (iRow_read hoff I)]
  iintro ⟨Hrow, HsI, Hsem, -, HO⟩
  iapply h
  isplitr [Ho HsI HsX HsO]
  · isplitr; · iexact HMW
    isplitl [Hx]; · iexact Hx
    isplitl [Hrow Hoth]
    · iapply (share_take (F := F) (iRow off inb).view.set q I).2
      isplitl [Hrow]; · iexact Hrow
      iexact Hoth
    isplitr [HO]
    · isplitl [Hsem]; · iexact Hsem
      iexact Hsems
    iexact HO
  isplitl [Ho]; · iexact Ho
  isplitl [HsI]; · iexact HsI
  isplitl [HsX]; · iexact HsX
  iexact HsO

/-- Fetch a value row. -/
theorem step_x {off : Fin 2 → ℕ} {inb inb'} {sem : DmaSem sig} {hsrc hdst hsem hsrc' hdst'}
    {k : PUnit → Prog (TpuEff nD τ sig (Elt F) Λ₀ (.scVector (cV L) (jV L))) α} (r : Fin 384) (hoff : off = ![r.val, 0])
    (hsc : (SemLoc.dma sem : SemLoc sig).isScoped .scVector = true)
    (h : St d L O W q X I ob io (rowOf X r) oo ⊢ WP d L (k ⟨⟩) Q) :
    St d L O W q X I ob io xo oo
      ⊢ WP d L (.op (.enqueueDma (xRow off inb) (.here sX) (.dma sem) hsrc hdst hsem) fun _ => .op (.waitDma2 sem (xRow off inb') sX hsrc' hdst') k) Q := by
  unfold St Rest at h ⊢
  rw [ownSems0_take d L sem hsc] at h ⊢
  iintro ⟨⟨#HMW, Hx, Hi, ⟨Hsem, Hsems⟩, HO⟩, Ho, HsI, HsX, HsO⟩
  ihave Hx' := (share_take (F := F) (xRow off inb).view.set q X).1 $$ Hx
  icases Hx' with ⟨Hrow, Hoth⟩
  iapply (wp_copy d L (O := O) (W := W) (Q := Q) (src := xRow off inb) (dst := sX) q X Finset.univ xo rfl (View.amount_pos _ _ (by decide)) (Finset.subset_univ _)) $$ [Hrow HsX Hsem HO]
  · isplitl [Hrow]; · iexact Hrow
    isplitl [HsX]; · iexact HsX
    isplitl [Hsem]; · iexact Hsem
    isplitr; · iexact HMW
    iexact HO
  rw [show (sX.view.write (Elt F) xo ((xRow off inb).view.read (Elt F) X) Finset.univ) = rowOf X r from
    (View.write_whole_univ _ _ _).trans (xRow_read hoff X)]
  iintro ⟨Hrow, HsX, Hsem, -, HO⟩
  iapply h
  isplitr [Ho HsI HsX HsO]
  · isplitr; · iexact HMW
    isplitl [Hrow Hoth]
    · iapply (share_take (F := F) (xRow off inb).view.set q X).2
      isplitl [Hrow]; · iexact Hrow
      iexact Hoth
    isplitl [Hi]; · iexact Hi
    isplitr [HO]
    · isplitl [Hsem]; · iexact Hsem
      iexact Hsems
    iexact HO
  isplitl [Ho]; · iexact Ho
  isplitl [HsI]; · iexact HsI
  isplitl [HsX]; · iexact HsX
  iexact HsO

/-- The plane's scratch, held by its view's elements, is held whole. -/
theorem sO_set (f : S50176.Idx → Elt F .f32) :
    (sO.view.loc (thr d L) ↦[sO.view.set]{fullShare} f : sProp 𝕄) = (sO.view.loc (thr d L) ↦{fullShare} f) :=
  congrArg (fun J => (sO.view.loc (thr d L) ↦[J]{fullShare} f : sProp 𝕄)) (View.set_whole cc0_scratch2)

/-- Write the plane out to its row: one more of the tile's planes is written. -/
theorem step_out {off : Fin 2 → ℕ} {inb inb'} {sem : DmaSem sig} {hsrc hdst hsem hsrc' hdst'}
    {k : PUnit → Prog (TpuEff nD τ sig (Elt F) Λ₀ (.scVector (cV L) (jV L))) α} (kp : Fin 6) (t : Fin 2)
    (hoff : off = ![(planeRow (pairOf L kp) t).val, 0]) (hsc : (SemLoc.dma sem : SemLoc sig).isScoped .scVector = true)
    (OUT : S384x50176.Idx → Elt F .f32) (hw : ∀ i, i 0 = planeRow (pairOf L kp) t → OUT i = oo (fun | 0 => i 1)) {n : ℕ} (hn : n = 2 * kp.val + t.val)
    (h : St d L O W q X I (upTo OUT ob (n + 1)) io xo oo ⊢ WP d L (k ⟨⟩) Q) :
    St d L O W q X I (upTo OUT ob n) io xo oo
      ⊢ WP d L (.op (.enqueueDma sO (.here (oRow off inb)) (.dma sem) hsrc hdst hsem) fun _ => .op (.waitDma2 sem sO (oRow off inb') hsrc' hdst') k) Q := by
  unfold St Rest at h ⊢
  rw [ownSems0_take d L sem hsc] at h ⊢
  iintro ⟨⟨#HMW, Hx, Hi, ⟨Hsem, Hsems⟩, HO⟩, Ho, HsI, HsX, HsO⟩
  ihave HsO' := (Entails.of_eq (sO_set d L oo).symm) $$ HsO
  iapply (wp_copy d L (O := O) (W := W) (Q := Q) (src := sO) (dst := oRow off inb) fullShare oo (mine L) (upTo OUT ob n) rfl (View.amount_pos _ _ (by decide)) (oRow_mine L kp t hoff)) $$ [Ho HsO' Hsem HO]
  · isplitl [HsO']; · iexact HsO'
    isplitl [Ho]; · iexact Ho
    isplitl [Hsem]; · iexact Hsem
    isplitr; · iexact HMW
    iexact HO
  iintro ⟨HsO', Ho, Hsem, -, HO⟩
  ihave Ho' := (Entails.of_eq (show ((oRow off inb).view.loc (thr d L) ↦[mine L]{fullShare}
      ((oRow off inb).view.write (Elt F) (upTo OUT ob n) (sO.view.read (Elt F) oo) Finset.univ) : sProp 𝕄) = (oV.view.loc (thr d L) ↦[mine L]{fullShare} upTo OUT ob (n + 1)) from
    pointsTo_congr (ℓ := oV.view.loc (thr d L)) (q := fullShare) (I := mine L) fun i hi => upTo_write (F := F) (inb := inb) L kp t hoff OUT ob oo hw hn hi)) $$ Ho
  iapply h
  isplitr [Ho' HsI HsX HsO']
  · isplitr; · iexact HMW
    isplitl [Hx]; · iexact Hx
    isplitl [Hi]; · iexact Hi
    isplitr [HO]
    · isplitl [Hsem]; · iexact Hsem
      iexact Hsems
    iexact HO
  isplitl [Ho']; · iexact Ho'
  isplitl [HsI]; · iexact HsI
  isplitl [HsX]; · iexact HsX
  iapply (Entails.of_eq (sO_set d L oo)); iexact HsO'

end Cert.Proof.Kernel
-- ==== Proof.Loops.lean ====
/-
  The tile's loops. A trip of the values loop loads sixteen indices and sixteen values and stores the values at the
  indices; a trip of the clearing loop stores zeros there; a trip of the zero fill stores sixteen zeros. Each trip is
  proved once, over the offset it computes and the side condition it checks, and each loop is one step over its trip.
-/
module

public import proofs.«01_k».proof.Proof.Steps

@[expose] public section

noncomputable section

namespace Cert.Proof.Kernel

open Cert.Kernel Cert.Kernel.Gen Cert.Proof.Unpool

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig (HIx 1) (Elt F) ℕ UU ℕ

variable (d : Dev nD) (L : grid0.Coords)

variable {O : CellTallies nD τ sig (HIx 1)} {W : Waits sig (HIx 1)} {q : PosShare TreeShare}
  {X : S384x12544.Idx → Elt F .f32} {I : S192x12544.Idx → BitVec 32}
  {ob : S384x50176.Idx → Elt F .f32} {io : S12544.Idx → BitVec 32} {xo : S12544.Idx → Elt F .f32} {oo : S50176.Idx → Elt F .f32}
variable {α : Type} {Q : α → sProp (MT nD τ sig (HIx 1) (Elt F) ℕ UU ℕ)}

/-! ## Lanes of a one-axis array -/

/-- An index at position `l` reads entry `l`. -/
theorem entry_eq {β : Type} {N : ℕ} [NeZero N] (x : (⟨1, ![N]⟩ : Shape).Idx → β) {l : ℕ} (j : (⟨1, ![N]⟩ : Shape).Idx) (h : (j 0).val = l) : x j = entry x l := by
  refine congrArg x (funext fun a => ?_)
  match a with
  | 0 => exact Fin.ext (h.trans (Nat.mod_eq_of_lt (h ▸ (j 0).isLt)).symm)

/-- Lane `k` of the sixteen loaded at `n` is entry `n + k`. -/
theorem lane_entry {β : Type} {off : Fin 1 → ℕ} {inb : ∀ a, off a + S16.size a ≤ S12544.size a} {n : ℕ} (hoff : off = ![n]) (x : S12544.Idx → β) (k : Fin 16) :
    x ((Rect.unit (s := S12544) off S16.size inb).toLoadRect.idx (Shape.ofLane (d := ![16]) k)) = entry x (n + k.val) := by
  subst hoff
  exact entry_eq x _ (show n + 1 * k.val = n + k.val by omega)

/-! ## The trips -/

/-- The float the kernel stores where nothing is unpooled to. -/
def zero : Elt F .f32 := Scalar.ofBits .f32 0x00000000#32

/-- Every word of an index row names a position of a plane. -/
def InPlane (io : S12544.Idx → BitVec 32) : Prop := ∀ l : ℕ, (entry io l).toNat < 50176

/-- The sixteen indices loaded name positions of a plane. -/
theorem lanes_inPlane {v : Vec F S16 .i32} {n : ℕ} (hv : ∀ k : Fin 16, v (Shape.ofLane (d := ![16]) k) = entry io (n + k.val)) (hr : InPlane io) :
    ∀ a x, ((![v] : Fin 1 → IVec S16 32) a x).toNat < S50176.size a := by
  intro a x
  obtain rfl : a = 0 := Subsingleton.elim _ _
  have hx : x = Shape.ofLane (d := ![16]) (x 0) := by
    funext b
    match b with
    | 0 => rfl
  show (v x).toNat < 50176
  rw [hx]
  exact (congrArg (fun b : BitVec 32 => b.toNat < 50176) (hv (x 0))).mpr (hr _)

/-- The plane's scratch, held by the elements an access to all of it has, is held whole. -/
theorem sO_whole (f : S50176.Idx → Elt F .f32) :
    ((sO.access (.whole S50176)).loc (thr d L) ↦[(sO.access (.whole S50176)).set]{fullShare} f : sProp 𝕄) = (sO.view.loc (thr d L) ↦{fullShare} f) :=
  congrArg (fun J => (sO.view.loc (thr d L) ↦[J]{fullShare} f : sProp 𝕄)) (Memref.set_access_whole cc0_scratch2)

/-- An indexed store into the plane. -/
theorem wp_storePlane {v : IVec S16 32} {w : Vec F S16 .f32} {hi hs} {k : PUnit → Prog (TpuEff nD τ sig (Elt F) Λ₀ (.scVector (cV L) (jV L))) α} (f : S50176.Idx → Elt F .f32) :
    (sO.view.loc (thr d L) ↦{fullShare} f : sProp 𝕄)
      ⊢ iprop(((sO.view.loc (thr d L) ↦{fullShare} (storeIdx (s := S50176) (e := .f32) f ![v] w (fun _ => 1#1) false hi : S50176.Idx → Elt F .f32)) -∗ WP d L (k ⟨⟩) Q)
        -∗ WP d L (SparseCore.vectorStoreIdx sO ![v] w (fun _ => 1#1) false hi hs >>= k) Q) := by
  rw [← sO_whole d L f, ← sO_whole d L (storeIdx (s := S50176) (e := .f32) f ![v] w (fun _ => 1#1) false hi)]
  have h := SparseCore.wp_vectorStoreIdx (defs := defs₀ (F := F)) 𝒱₀ (thr d L) none Set.univ (Q := Q) (base := sO) (idxs := ![v]) (v := w) (mask := fun _ => 1#1)
    (add := false) (h := hi) (hs := hs) (k := k) (f := f)
  rw [show ((sO.access (.whole S50176)).write (Elt F) f (storeIdx ((sO.access (.whole S50176)).read (Elt F) f) ![v] w (fun _ => 1#1) false hi) Finset.univ)
    = (storeIdx (s := S50176) (e := .f32) f ![v] w (fun _ => 1#1) false hi : S50176.Idx → Elt F .f32) from
    (Memref.write_access_whole_univ (Elt F) cc0_scratch2 f _).trans (congrArg (fun g => storeIdx (s := S50176) (e := .f32) g ![v] w (fun _ => 1#1) false hi)
      (Memref.read_access_whole (Elt F) cc0_scratch2 f))] at h
  exact h

/-- One trip of the values loop. -/
theorem trip_vals {off : Fin 1 → ℕ} {inb : ∀ a, off a + S16.size a ≤ S12544.size a} {t : ℕ} (hoff : off = ![16 * t]) (hr : InPlane io)
    {chk : Vec F S16 .i32 → Prop} {dec : ∀ v, Decidable (chk v)} (hchk : ∀ v : Vec F S16 .i32, (∀ a x, ((![v] : Fin 1 → IVec S16 32) a x).toNat < S50176.size a) → chk v)
    {idx : ∀ v : Vec F S16 .i32, chk v → ∀ a x, ((![v] : Fin 1 → IVec S16 32) a x).toNat < S50176.size a} {hl hl' hs} :
    St d L O W q X I ob io xo (after io xo (16 * t) oo)
      ⊢ WP d L (do
          let v : Vec F S16 .i32 ← Prog.lift (.load sI (Rect.unit (s := S12544) off S16.size inb).toLoadRect hl)
          have hw : chk v := (← Prog.lift (TpuEff.assume (chk v) (dec v))).down
          let w : Vec F S16 .f32 ← Prog.lift (.load sX (Rect.unit (s := S12544) off S16.size inb).toLoadRect hl')
          SparseCore.vectorStoreIdx sO ![v] w (fun _ => 1#1) false (idx v hw) hs
          pure 0#32) fun _ => St d L O W q X I ob io xo (after io xo (16 * (t + 1)) oo) := by
  have hi : ∀ k : Fin 16, (sI.view.readAt (Elt F) (Rect.unit (s := S12544) off S16.size inb).toLoadRect io) (Shape.ofLane (d := ![16]) k) = entry io (16 * t + k.val) :=
    fun k => lane_entry hoff io k
  have hx : ∀ k : Fin 16, (sX.view.readAt (Elt F) (Rect.unit (s := S12544) off S16.size inb).toLoadRect xo) (Shape.ofLane (d := ![16]) k) = entry xo (16 * t + k.val) :=
    fun k => lane_entry hoff xo k
  simp only [Prog.lift, Prog.bind_op, Prog.bind_ret, Prog.pure_eq_ret]
  unfold St
  iintro ⟨HR, Ho, HsI, HsX, HsO⟩
  iapply (wp_load 𝒱₀ (thr d L) none Set.univ (m := sI) (S := Finset.univ) (Finset.subset_univ _)) $$ HsI
  iintro HsI
  rw [wp_assume_of _ _ _ _ (hchk _ (lanes_inPlane hi hr))]
  iapply (wp_load 𝒱₀ (thr d L) none Set.univ (m := sX) (S := Finset.univ) (Finset.subset_univ _)) $$ HsX
  iintro HsX
  iapply (wp_storePlane d L (after io xo (16 * t) oo)) $$ HsO
  rw [after_store io xo (16 * t) oo _ _ _ hi hx]
  iintro HsO
  unfold WP
  rw [wp_ret]
  imodintro
  isplitl [HR]; · iexact HR
  isplitl [Ho]; · iexact Ho
  isplitl [HsI]; · iexact HsI
  isplitl [HsX]; · iexact HsX
  iexact HsO

/-- One trip of the clearing loop. -/
theorem trip_zeros {off : Fin 1 → ℕ} {inb : ∀ a, off a + S16.size a ≤ S12544.size a} {t : ℕ} (hoff : off = ![16 * t]) (hr : InPlane io)
    {chk : Vec F S16 .i32 → Prop} {dec : ∀ v, Decidable (chk v)} (hchk : ∀ v : Vec F S16 .i32, (∀ a x, ((![v] : Fin 1 → IVec S16 32) a x).toNat < S50176.size a) → chk v)
    {idx : ∀ v : Vec F S16 .i32, chk v → ∀ a x, ((![v] : Fin 1 → IVec S16 32) a x).toNat < S50176.size a} {hl hs} :
    St d L O W q X I ob io xo (after io (fun _ => zero) (16 * t) oo)
      ⊢ WP d L (do
          let v : Vec F S16 .i32 ← Prog.lift (.load sI (Rect.unit (s := S12544) off S16.size inb).toLoadRect hl)
          have hw : chk v := (← Prog.lift (TpuEff.assume (chk v) (dec v))).down
          SparseCore.vectorStoreIdx sO ![v] (k0_pay1 (F := F)) (fun _ => 1#1) false (idx v hw) hs
          pure 0#32) fun _ => St d L O W q X I ob io xo (after io (fun _ => zero) (16 * (t + 1)) oo) := by
  have hi : ∀ k : Fin 16, (sI.view.readAt (Elt F) (Rect.unit (s := S12544) off S16.size inb).toLoadRect io) (Shape.ofLane (d := ![16]) k) = entry io (16 * t + k.val) :=
    fun k => lane_entry hoff io k
  simp only [Prog.lift, Prog.bind_op, Prog.bind_ret, Prog.pure_eq_ret]
  unfold St
  iintro ⟨HR, Ho, HsI, HsX, HsO⟩
  iapply (wp_load 𝒱₀ (thr d L) none Set.univ (m := sI) (S := Finset.univ) (Finset.subset_univ _)) $$ HsI
  iintro HsI
  rw [wp_assume_of _ _ _ _ (hchk _ (lanes_inPlane hi hr))]
  iapply (wp_storePlane d L (after io (fun _ => zero) (16 * t) oo)) $$ HsO
  rw [after_store io (fun _ => zero) (16 * t) oo _ (k0_pay1 (F := F)) _ hi fun _ => rfl]
  iintro HsO
  unfold WP
  rw [wp_ret]
  imodintro
  isplitl [HR]; · iexact HR
  isplitl [Ho]; · iexact Ho
  isplitl [HsI]; · iexact HsI
  isplitl [HsX]; · iexact HsX
  iexact HsO

/-- The plane with its first `n` positions zeroed. -/
def zeroed (n : ℕ) (oo : S50176.Idx → Elt F .f32) : S50176.Idx → Elt F .f32 := fun j => if (j 0).val < n then zero else oo j

/-- Sixteen zeros more. -/
theorem zeroed_store {off : Fin 1 → ℕ} {inb : ∀ a, off a + S16.size a ≤ S50176.size a} {n : ℕ} (hoff : off = ![n]) :
    (sO.access (Rect.unit (s := S50176) off S16.size inb)).write (Elt F) (zeroed n oo) (k0_pay1 (F := F)) Finset.univ = zeroed (n + 16) oo := by
  subst hoff
  funext i
  unfold zeroed
  by_cases h : n ≤ (i 0).val ∧ (i 0).val < n + 16
  · rw [if_pos h.2]
    have he : i = (sO.access (Rect.unit (s := S50176) ![n] S16.size inb)).emb (Shape.ofLane (d := ![16]) ⟨(i 0).val - n, Nat.sub_lt_left_of_lt_add h.1 h.2⟩) := by
      funext a
      match a with
      | 0 => exact Fin.ext (show (i 0).val = n + 1 * ((i 0).val - n) by omega)
    conv_lhs => rw [he]
    exact View.write_emb_of_mem _ _ (Finset.mem_univ _)
  · refine (View.write_of_not_mem _ _ _ fun hm => h ?_).trans ?_
    · rw [View.setOn_univ] at hm
      obtain ⟨j, -, rfl⟩ := Finset.mem_map.mp hm
      have hj : (j 0).val < 16 := (j 0).isLt
      show n ≤ n + 1 * (j 0).val ∧ n + 1 * (j 0).val < n + 16
      omega
    · by_cases h' : (i 0).val < n
      · rw [if_pos h', if_pos (by omega)]
      · rw [if_neg h', if_neg (by omega)]

/-- One trip of the zero fill. -/
theorem trip_fill {off : Fin 1 → ℕ} {inb : ∀ a, off a + S16.size a ≤ S50176.size a} {t : ℕ} (hoff : off = ![16 * t]) {hl hs hm} :
    St d L O W q X I ob io xo (zeroed (16 * t) oo)
      ⊢ WP d L (do
          let _v : Vec F S16 .f32 ← Prog.lift (.load sO (Rect.unit (s := S50176) off S16.size inb).toLoadRect hl)
          Prog.lift (.store sO (Rect.unit (s := S50176) off S16.size inb) (k0_pay1 (F := F)) Finset.univ hs hm)
          pure 0#32) fun _ => St d L O W q X I ob io xo (zeroed (16 * (t + 1)) oo) := by
  simp only [Prog.lift, Prog.bind_op, Prog.bind_ret, Prog.pure_eq_ret]
  unfold St
  iintro ⟨HR, Ho, HsI, HsX, HsO⟩
  iapply (wp_load 𝒱₀ (thr d L) none Set.univ (m := sO) (S := Finset.univ) (Finset.subset_univ _)) $$ HsO
  iintro HsO
  iapply (wp_store 𝒱₀ (thr d L) none Set.univ (m := sO) (r := Rect.unit (s := S50176) off S16.size inb) (Mk := Finset.univ) (S := Finset.univ) (f := zeroed (16 * t) oo) (Finset.subset_univ _)) $$ HsO
  rw [zeroed_store hoff]
  iintro HsO
  rw [wp_ret]
  imodintro
  isplitl [HR]; · iexact HR
  isplitl [Ho]; · iexact Ho
  isplitl [HsI]; · iexact HsI
  isplitl [HsX]; · iexact HsX
  iexact HsO

/-! ## The loops -/

/-- A loop body that stores the values, by its trips. -/
def IsVals {n : ℕ} (body : Fin n → BitVec 32 → Prog (TpuEff nD τ sig (Elt F) Λ₀ (.scVector (cV L) (jV L))) (BitVec 32)) : Prop :=
  ∀ (O : CellTallies nD τ sig (HIx 1)) (W : Waits sig (HIx 1)) (q : PosShare TreeShare) (X : S384x12544.Idx → Elt F .f32) (I : S192x12544.Idx → BitVec 32)
    (ob : S384x50176.Idx → Elt F .f32) (io : S12544.Idx → BitVec 32) (xo : S12544.Idx → Elt F .f32) (oo : S50176.Idx → Elt F .f32), InPlane io →
    ∀ (t : Fin n) (acc : BitVec 32), St d L O W q X I ob io xo (after io xo (16 * t.val) oo) ⊢ WP d L (body t acc) fun _ => St d L O W q X I ob io xo (after io xo (16 * (t.val + 1)) oo)

/-- A loop body that clears, by its trips. -/
def IsZeros {n : ℕ} (body : Fin n → BitVec 32 → Prog (TpuEff nD τ sig (Elt F) Λ₀ (.scVector (cV L) (jV L))) (BitVec 32)) : Prop :=
  ∀ (O : CellTallies nD τ sig (HIx 1)) (W : Waits sig (HIx 1)) (q : PosShare TreeShare) (X : S384x12544.Idx → Elt F .f32) (I : S192x12544.Idx → BitVec 32)
    (ob : S384x50176.Idx → Elt F .f32) (io : S12544.Idx → BitVec 32) (xo : S12544.Idx → Elt F .f32) (oo : S50176.Idx → Elt F .f32), InPlane io →
    ∀ (t : Fin n) (acc : BitVec 32), St d L O W q X I ob io xo (after io (fun _ => zero) (16 * t.val) oo)
      ⊢ WP d L (body t acc) fun _ => St d L O W q X I ob io xo (after io (fun _ => zero) (16 * (t.val + 1)) oo)

/-- A loop body that zeroes the plane from its start, by its trips. -/
def IsFill {n : ℕ} (body : Fin n → BitVec 32 → Prog (TpuEff nD τ sig (Elt F) Λ₀ (.scVector (cV L) (jV L))) (BitVec 32)) : Prop :=
  ∀ (O : CellTallies nD τ sig (HIx 1)) (W : Waits sig (HIx 1)) (q : PosShare TreeShare) (X : S384x12544.Idx → Elt F .f32) (I : S192x12544.Idx → BitVec 32)
    (ob : S384x50176.Idx → Elt F .f32) (io : S12544.Idx → BitVec 32) (xo : S12544.Idx → Elt F .f32) (oo : S50176.Idx → Elt F .f32),
    ∀ (t : Fin n) (acc : BitVec 32), St d L O W q X I ob io xo (zeroed (16 * t.val) oo) ⊢ WP d L (body t acc) fun _ => St d L O W q X I ob io xo (zeroed (16 * (t.val + 1)) oo)

/-- A loop at the head of a program, over a family of states its trips walk through. -/
theorem step_loop {lp : Scf.Loop 32} {ok : lp.OK} {init : BitVec 32} {body : Fin lp.trips → BitVec 32 → Prog (TpuEff nD τ sig (Elt F) Λ₀ (.scVector (cV L) (jV L))) (BitVec 32)}
    {k : BitVec 32 → Prog (TpuEff nD τ sig (Elt F) Λ₀ (.scVector (cV L) (jV L))) α} (N : ℕ) (hN : lp.trips = N) (P : ℕ → sProp 𝕄)
    (hb : ∀ (t : Fin lp.trips) (acc : BitVec 32), P t.val ⊢ WP d L (body t acc) fun _ => P (t.val + 1)) (h : ∀ acc, P N ⊢ WP d L (k acc) Q) :
    P 0 ⊢ WP d L (Scf.Loop.for lp ok init body >>= k) Q := by
  subst hN
  iintro H
  iapply (Scf.wp_for_bind frame (wpE (defs₀ (F := F)) 𝒱₀ (thr d L) none) Set.univ lp.lb lp.ub lp.st ok init body (fun t _ => P t) hb) $$ H
  iintro %acc H
  iapply (h acc)
  iexact H

/-- One trip of the loop that writes values. -/
theorem step_vals {lp : Scf.Loop 32} {ok : lp.OK} {init : BitVec 32} {body : Fin lp.trips → BitVec 32 → Prog (TpuEff nD τ sig (Elt F) Λ₀ (.scVector (cV L) (jV L))) (BitVec 32)}
    {k : BitVec 32 → Prog (TpuEff nD τ sig (Elt F) Λ₀ (.scVector (cV L) (jV L))) α} (hN : lp.trips = 784) (hb : IsVals d L body) (hr : InPlane io)
    (h : ∀ acc, St d L O W q X I ob io xo (after io xo 12544 oo) ⊢ WP d L (k acc) Q) :
    St d L O W q X I ob io xo oo ⊢ WP d L (Scf.Loop.for lp ok init body >>= k) Q :=
  step_loop d L 784 hN (fun t => St d L O W q X I ob io xo (after io xo (16 * t) oo)) (hb O W q X I ob io xo oo hr) h

/-- One trip of the loop that clears positions. -/
theorem step_zeros {lp : Scf.Loop 32} {ok : lp.OK} {init : BitVec 32} {body : Fin lp.trips → BitVec 32 → Prog (TpuEff nD τ sig (Elt F) Λ₀ (.scVector (cV L) (jV L))) (BitVec 32)}
    {k : BitVec 32 → Prog (TpuEff nD τ sig (Elt F) Λ₀ (.scVector (cV L) (jV L))) α} (hN : lp.trips = 784) (hb : IsZeros d L body) (hr : InPlane io)
    (h : ∀ acc, St d L O W q X I ob io xo (after io (fun _ => zero) 12544 oo) ⊢ WP d L (k acc) Q) :
    St d L O W q X I ob io xo oo ⊢ WP d L (Scf.Loop.for lp ok init body >>= k) Q :=
  step_loop d L 784 hN (fun t => St d L O W q X I ob io xo (after io (fun _ => zero) (16 * t) oo)) (hb O W q X I ob io xo oo hr) h

/-- No zeros written: the plane as it was. -/
theorem zeroed_zero : zeroed 0 oo = oo := funext fun _ => if_neg (Nat.not_lt_zero _)
/-- All zeros written: the zero plane. -/
theorem zeroed_all : zeroed 50176 oo = fun _ => zero := funext fun j => if_pos (j 0).isLt

/-- One trip of the loop that fills with zeros. -/
theorem step_fill {lp : Scf.Loop 32} {ok : lp.OK} {init : BitVec 32} {body : Fin lp.trips → BitVec 32 → Prog (TpuEff nD τ sig (Elt F) Λ₀ (.scVector (cV L) (jV L))) (BitVec 32)}
    {k : BitVec 32 → Prog (TpuEff nD τ sig (Elt F) Λ₀ (.scVector (cV L) (jV L))) α} (hN : lp.trips = 3136) (hb : IsFill d L body)
    (h : ∀ acc, St d L O W q X I ob io xo (fun _ => zero) ⊢ WP d L (k acc) Q) :
    St d L O W q X I ob io xo oo ⊢ WP d L (Scf.Loop.for lp ok init body >>= k) Q := by
  have h' := step_loop d L (ok := ok) (init := init) (k := k) (Q := Q) 3136 hN (fun t => St d L O W q X I ob io xo (zeroed (16 * t) oo)) (hb O W q X I ob io xo oo) (by
    rw [show 16 * 3136 = 50176 from rfl, zeroed_all]; exact h)
  rwa [Nat.mul_zero, zeroed_zero] at h'

end Cert.Proof.Kernel
-- ==== Proof.Tile.lean ====
/-
  The tile's whole program, one step after another: the zero fill, then for each of its six index rows the two planes,
  each fetched, unpooled and written out, the plane cleared between rows. Proved once, at a symbolic tile.
-/
module

public import proofs.«01_k».proof.Proof.Loops

@[expose] public section

noncomputable section

namespace Cert.Proof.Kernel

open Cert.Kernel Cert.Kernel.Gen Cert.Proof.Unpool

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig (HIx 1) (Elt F) ℕ UU ℕ

variable (d : Dev nD) (L : grid0.Coords)

variable {O : CellTallies nD τ sig (HIx 1)} {W : Waits sig (HIx 1)} {q : PosShare TreeShare}
  {X : S384x12544.Idx → Elt F .f32} {I : S192x12544.Idx → BitVec 32}
  {ob : S384x50176.Idx → Elt F .f32} {io : S12544.Idx → BitVec 32} {xo : S12544.Idx → Elt F .f32} {oo : S50176.Idx → Elt F .f32}
variable {α : Type} {Q : α → sProp (MT nD τ sig (HIx 1) (Elt F) ℕ UU ℕ)}

/-! ## The loops' bodies are the trips -/

/-- The offset a trip computes: sixteen times its number. -/
def trip16 (t : ℕ) : Fin 1 → ℕ := ![(Scalar.indexCast (Scalar.muli (Scf.iv 0#32 1#32 t) 16#32)).toNat]

/-- Trip `t` starts at entry `16 t`. -/
theorem trip16_eq {t : ℕ} (ht : t < 3136) : trip16 t = ![16 * t] := by
  unfold trip16
  refine congrArg (fun n => ![n]) ?_
  show ((0#32 + BitVec.ofNat 32 t * 1#32) * 16#32).toNat = 16 * t
  simp only [BitVec.toNat_mul, BitVec.toNat_add, BitVec.toNat_ofNat]
  omega

/-- A body that is a trip of the values loop, whatever offset and side condition it spells. -/
theorem isVals {n : ℕ} {body : Fin n → BitVec 32 → Prog (TpuEff nD τ sig (Elt F) Λ₀ (.scVector (cV L) (jV L))) (BitVec 32)} (hn : n = 784) {off : Fin n → Fin 1 → ℕ}
    {inb : ∀ t, ∀ a, off t a + S16.size a ≤ S12544.size a} (hoff : ∀ t, off t = trip16 t.val) (chk : Vec F S16 .i32 → Prop) {dec : ∀ v, Decidable (chk v)}
    (hchk : ∀ v : Vec F S16 .i32, (∀ a x, ((![v] : Fin 1 → IVec S16 32) a x).toNat < S50176.size a) → chk v)
    {idx : ∀ v : Vec F S16 .i32, chk v → ∀ a x, ((![v] : Fin 1 → IVec S16 32) a x).toNat < S50176.size a} {hs}
    (hbody : ∀ t acc, body t acc = (do
          let v : Vec F S16 .i32 ← Prog.lift (.load sI (Rect.unit (s := S12544) (off t) S16.size (inb t)).toLoadRect (View.loadsAt_vmem h_S16))
          have hw : chk v := (← Prog.lift (TpuEff.assume (chk v) (dec v))).down
          let w : Vec F S16 .f32 ← Prog.lift (.load sX (Rect.unit (s := S12544) (off t) S16.size (inb t)).toLoadRect (View.loadsAt_vmem h_S16))
          SparseCore.vectorStoreIdx sO ![v] w (fun _ => 1#1) false (idx v hw) hs
          pure 0#32)) : IsVals d L body := fun O W q X I ob io xo oo hr t acc => by
  rw [hbody]
  exact trip_vals d L ((hoff t).trans (trip16_eq (by have := t.isLt; omega))) hr hchk

/-- A body that is a trip of the clearing loop. -/
theorem isZeros {n : ℕ} {body : Fin n → BitVec 32 → Prog (TpuEff nD τ sig (Elt F) Λ₀ (.scVector (cV L) (jV L))) (BitVec 32)} (hn : n = 784) {off : Fin n → Fin 1 → ℕ}
    {inb : ∀ t, ∀ a, off t a + S16.size a ≤ S12544.size a} (hoff : ∀ t, off t = trip16 t.val) (chk : Vec F S16 .i32 → Prop) {dec : ∀ v, Decidable (chk v)}
    (hchk : ∀ v : Vec F S16 .i32, (∀ a x, ((![v] : Fin 1 → IVec S16 32) a x).toNat < S50176.size a) → chk v)
    {idx : ∀ v : Vec F S16 .i32, chk v → ∀ a x, ((![v] : Fin 1 → IVec S16 32) a x).toNat < S50176.size a} {hs}
    (hbody : ∀ t acc, body t acc = (do
          let v : Vec F S16 .i32 ← Prog.lift (.load sI (Rect.unit (s := S12544) (off t) S16.size (inb t)).toLoadRect (View.loadsAt_vmem h_S16))
          have hw : chk v := (← Prog.lift (TpuEff.assume (chk v) (dec v))).down
          SparseCore.vectorStoreIdx sO ![v] (k0_pay1 (F := F)) (fun _ => 1#1) false (idx v hw) hs
          pure 0#32)) : IsZeros d L body := fun O W q X I ob io xo oo hr t acc => by
  rw [hbody]
  exact trip_zeros d L ((hoff t).trans (trip16_eq (by have := t.isLt; omega))) hr hchk

/-- A body that is a trip of the zero fill. -/
theorem isFill {n : ℕ} {body : Fin n → BitVec 32 → Prog (TpuEff nD τ sig (Elt F) Λ₀ (.scVector (cV L) (jV L))) (BitVec 32)} (hn : n = 3136) {off : Fin n → Fin 1 → ℕ}
    {inb : ∀ t, ∀ a, off t a + S16.size a ≤ S50176.size a} (hoff : ∀ t, off t = trip16 t.val)
    (hbody : ∀ t acc, body t acc = (do
          let _v : Vec F S16 .f32 ← Prog.lift (.load sO (Rect.unit (s := S50176) (off t) S16.size (inb t)).toLoadRect (View.loadsAt_vmem h_S16))
          Prog.lift (.store sO (Rect.unit (s := S50176) (off t) S16.size (inb t)) (k0_pay1 (F := F)) Finset.univ (View.stores_vmem_bits_univ h_S16 rfl) (.inl rfl))
          pure 0#32)) : IsFill d L body := fun O W q X I ob io xo oo t acc => by
  rw [hbody]
  exact trip_fill d L ((hoff t).trans (trip16_eq (by have := t.isLt; omega)))

/-! ## One index row -/

/-- Every DMA semaphore is the tile's own. -/
theorem sem_scoped : ∀ sem : DmaSem sig, (SemLoc.dma sem : SemLoc sig).isScoped .scVector = true := by decide

/-- Row `r` of the result is plane `r`. -/
theorem unpool_plane {r : Fin 384} {z : Elt F .f32} (i : S384x50176.Idx) (h : i 0 = r) : unpool X I z i = plane X I z r fun | 0 => i 1 := by
  subst h; rfl

/-- The rows of a table of positions name positions. -/
theorem inPlane_row (hI : ∀ i, (I i).toNat < 50176) (p : Fin 192) : InPlane (rowOf I p) := fun _ => hI _

/-- A value row's part of the work: fetch it, store its values over the plane, write the plane out. -/
theorem plane_step (kp : Fin 6) (t : Fin 2) {offX offO : Fin 2 → ℕ} {inbX inbX' inbO inbO'} {semX semO : DmaSem sig}
    {a1 a2 a3 a4 a5 b1 b2 b3 b4 b5} {lp : Scf.Loop 32} {ok : lp.OK} {init : BitVec 32} {body : Fin lp.trips → BitVec 32 → Prog (TpuEff nD τ sig (Elt F) Λ₀ (.scVector (cV L) (jV L))) (BitVec 32)}
    {k : PUnit → Prog (TpuEff nD τ sig (Elt F) Λ₀ (.scVector (cV L) (jV L))) α} (hX : offX = ![(planeRow (pairOf L kp) t).val, 0]) (hO : offO = ![(planeRow (pairOf L kp) t).val, 0])
    (hN : lp.trips = 784) (hb : IsVals d L body) (hI : ∀ i, (I i).toNat < 50176)
    (hoo : after (rowOf I (pairOf L kp)) (rowOf X (planeRow (pairOf L kp) t)) 12544 oo = plane X I zero (planeRow (pairOf L kp) t))
    {n : ℕ} (hn : n = 2 * kp.val + t.val)
    (h : St d L O W q X I (upTo (unpool X I zero) ob (n + 1)) (rowOf I (pairOf L kp)) (rowOf X (planeRow (pairOf L kp) t)) (plane X I zero (planeRow (pairOf L kp) t))
      ⊢ WP d L (k ⟨⟩) Q) :
    St d L O W q X I (upTo (unpool X I zero) ob n) (rowOf I (pairOf L kp)) xo oo
      ⊢ WP d L (.op (.enqueueDma (xRow offX inbX) (.here sX) (.dma semX) a1 a2 a3) fun _ => .op (.waitDma2 semX (xRow offX inbX') sX a4 a5) fun _ =>
          Scf.Loop.for lp ok init body >>= fun _ =>
          .op (.enqueueDma sO (.here (oRow offO inbO)) (.dma semO) b1 b2 b3) fun _ => .op (.waitDma2 semO sO (oRow offO inbO') b4 b5) k) Q := by
  refine step_x d L (planeRow (pairOf L kp) t) hX (sem_scoped semX) ?_
  refine step_vals d L hN hb (inPlane_row hI _) fun _ => ?_
  rw [hoo]
  exact step_out d L kp t hO (sem_scoped semO) _ unpool_plane hn h

/-- An index row's part of the work: fetch it, then unpool its two planes, from a cleared plane. -/
theorem pair_step (kp : Fin 6) {offI offX offO offX' offO' : Fin 2 → ℕ} {inbI inbI' inbX inbX' inbO inbO' inbY inbY' inbP inbP'} {semI semX semO semX' semO' : DmaSem sig}
    {i1 i2 i3 i4 i5 a1 a2 a3 a4 a5 b1 b2 b3 b4 b5 c1 c2 c3 c4 c5 e1 e2 e3 e4 e5}
    {lp : Scf.Loop 32} {ok : lp.OK} {init : BitVec 32} {body : Fin lp.trips → BitVec 32 → Prog (TpuEff nD τ sig (Elt F) Λ₀ (.scVector (cV L) (jV L))) (BitVec 32)}
    {lp' : Scf.Loop 32} {ok' : lp'.OK} {init' : BitVec 32} {body' : Fin lp'.trips → BitVec 32 → Prog (TpuEff nD τ sig (Elt F) Λ₀ (.scVector (cV L) (jV L))) (BitVec 32)}
    {k : PUnit → Prog (TpuEff nD τ sig (Elt F) Λ₀ (.scVector (cV L) (jV L))) α} (hI : ∀ i, (I i).toNat < 50176) (hoffI : offI = ![(pairOf L kp).val, 0])
    (hX : offX = ![(planeRow (pairOf L kp) 0).val, 0]) (hO : offO = ![(planeRow (pairOf L kp) 0).val, 0])
    (hX' : offX' = ![(planeRow (pairOf L kp) 1).val, 0]) (hO' : offO' = ![(planeRow (pairOf L kp) 1).val, 0])
    (hN : lp.trips = 784) (hb : IsVals d L body) (hN' : lp'.trips = 784) (hb' : IsVals d L body')
    (h : St d L O W q X I (upTo (unpool X I zero) ob (2 * kp.val + 2)) (rowOf I (pairOf L kp)) (rowOf X (planeRow (pairOf L kp) 1)) (plane X I zero (planeRow (pairOf L kp) 1))
      ⊢ WP d L (k ⟨⟩) Q) :
    St d L O W q X I (upTo (unpool X I zero) ob (2 * kp.val)) io xo (fun _ => zero)
      ⊢ WP d L (.op (.enqueueDma (iRow offI inbI) (.here sI) (.dma semI) i1 i2 i3) fun _ => .op (.waitDma2 semI (iRow offI inbI') sI i4 i5) fun _ =>
          .op (.enqueueDma (xRow offX inbX) (.here sX) (.dma semX) a1 a2 a3) fun _ => .op (.waitDma2 semX (xRow offX inbX') sX a4 a5) fun _ =>
          Scf.Loop.for lp ok init body >>= fun _ =>
          .op (.enqueueDma sO (.here (oRow offO inbO)) (.dma semO) b1 b2 b3) fun _ => .op (.waitDma2 semO sO (oRow offO inbO') b4 b5) fun _ =>
          .op (.enqueueDma (xRow offX' inbY) (.here sX) (.dma semX') c1 c2 c3) fun _ => .op (.waitDma2 semX' (xRow offX' inbY') sX c4 c5) fun _ =>
          Scf.Loop.for lp' ok' init' body' >>= fun _ =>
          .op (.enqueueDma sO (.here (oRow offO' inbP)) (.dma semO') e1 e2 e3) fun _ => .op (.waitDma2 semO' sO (oRow offO' inbP') e4 e5) k) Q := by
  refine step_ind d L (pairOf L kp) hoffI (sem_scoped semI) ?_
  refine plane_step d L kp 0 hX hO hN hb hI (plane_first X I zero _ 0) rfl ?_
  exact plane_step d L kp 1 hX' hO' hN' hb' hI (plane_second X I zero _ 0 1) rfl h

/-- The clearing loop, between two index rows. -/
theorem clear_step (kp : Fin 6) {lp : Scf.Loop 32} {ok : lp.OK} {init : BitVec 32} {body : Fin lp.trips → BitVec 32 → Prog (TpuEff nD τ sig (Elt F) Λ₀ (.scVector (cV L) (jV L))) (BitVec 32)}
    {k : BitVec 32 → Prog (TpuEff nD τ sig (Elt F) Λ₀ (.scVector (cV L) (jV L))) α} (hI : ∀ i, (I i).toNat < 50176) (hN : lp.trips = 784) (hb : IsZeros d L body)
    (h : ∀ acc, St d L O W q X I ob (rowOf I (pairOf L kp)) xo (fun _ => zero) ⊢ WP d L (k acc) Q) :
    St d L O W q X I ob (rowOf I (pairOf L kp)) xo (plane X I zero (planeRow (pairOf L kp) 1)) ⊢ WP d L (Scf.Loop.for lp ok init body >>= k) Q := by
  refine step_zeros d L hN hb (inPlane_row hI _) fun acc => ?_
  rw [plane_cleared]
  exact h acc

/-! ## The program -/

/-- From any scratch, the tile's program leaves its planes of the result unpooled. -/
theorem tile_run (hI : ∀ i, (I i).toNat < 50176) :
    St d L O W q X I ob io xo oo ⊢ WP d L (cc0__unpool_body L xV (Memref.isWhole_whole _) iV (Memref.isWhole_whole _) oV (Memref.isWhole_whole _)
        sI (Memref.isWhole_whole _) sX (Memref.isWhole_whole _) sO (Memref.isWhole_whole _)
        cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29)
      fun _ => iprop(∃ io xo oo, St d L O W q X I (unpool X I zero) io xo oo) := by
  simp only [cc0__unpool_body_eq_skeleton]
  unfold cc0__unpool_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [Prog.lift, Prog.bind_op, Prog.bind_ret, Prog.bind_assoc, Prog.pure_eq_ret]
  rw [← upTo_zero (unpool X I zero) ob]
  refine step_fill d L rfl (isFill d L rfl (fun _ => rfl) fun _ _ => rfl) fun _ => ?_
  refine pair_step d L 0 hI (off2_eq L 0) (off3_eq L 0 0) (off5_eq L 0 0) (off3_eq L 0 1) (off5_eq L 0 1)
    rfl (isVals d L rfl (fun _ => rfl) k0_chk1 (fun _ h => h) fun _ _ => rfl) rfl (isVals d L rfl (fun _ => rfl) k0_chk2 (fun _ h => h) fun _ _ => rfl) ?_
  refine clear_step d L 0 hI rfl (isZeros d L rfl (fun _ => rfl) k0_chk3 (fun _ h => h) fun _ _ => rfl) fun _ => ?_
  refine pair_step d L 1 hI (off2_eq L 1) (off3_eq L 1 0) (off5_eq L 1 0) (off3_eq L 1 1) (off5_eq L 1 1)
    rfl (isVals d L rfl (fun _ => rfl) k0_chk4 (fun _ h => h) fun _ _ => rfl) rfl (isVals d L rfl (fun _ => rfl) k0_chk5 (fun _ h => h) fun _ _ => rfl) ?_
  refine clear_step d L 1 hI rfl (isZeros d L rfl (fun _ => rfl) k0_chk6 (fun _ h => h) fun _ _ => rfl) fun _ => ?_
  refine pair_step d L 2 hI (off2_eq L 2) (off3_eq L 2 0) (off5_eq L 2 0) (off3_eq L 2 1) (off5_eq L 2 1)
    rfl (isVals d L rfl (fun _ => rfl) k0_chk7 (fun _ h => h) fun _ _ => rfl) rfl (isVals d L rfl (fun _ => rfl) k0_chk8 (fun _ h => h) fun _ _ => rfl) ?_
  refine clear_step d L 2 hI rfl (isZeros d L rfl (fun _ => rfl) k0_chk9 (fun _ h => h) fun _ _ => rfl) fun _ => ?_
  refine pair_step d L 3 hI (off2_eq L 3) (off3_eq L 3 0) (off5_eq L 3 0) (off3_eq L 3 1) (off5_eq L 3 1)
    rfl (isVals d L rfl (fun _ => rfl) k0_chk10 (fun _ h => h) fun _ _ => rfl) rfl (isVals d L rfl (fun _ => rfl) k0_chk11 (fun _ h => h) fun _ _ => rfl) ?_
  refine clear_step d L 3 hI rfl (isZeros d L rfl (fun _ => rfl) k0_chk12 (fun _ h => h) fun _ _ => rfl) fun _ => ?_
  refine pair_step d L 4 hI (off2_eq L 4) (off3_eq L 4 0) (off5_eq L 4 0) (off3_eq L 4 1) (off5_eq L 4 1)
    rfl (isVals d L rfl (fun _ => rfl) k0_chk13 (fun _ h => h) fun _ _ => rfl) rfl (isVals d L rfl (fun _ => rfl) k0_chk14 (fun _ h => h) fun _ _ => rfl) ?_
  refine clear_step d L 4 hI rfl (isZeros d L rfl (fun _ => rfl) k0_chk15 (fun _ h => h) fun _ _ => rfl) fun _ => ?_
  refine pair_step d L 5 hI (off2_eq L 5) (off3_eq L 5 0) (off5_eq L 5 0) (off3_eq L 5 1) (off5_eq L 5 1)
    rfl (isVals d L rfl (fun _ => rfl) k0_chk16 (fun _ h => h) fun _ _ => rfl) rfl (isVals d L rfl (fun _ => rfl) k0_chk17 (fun _ h => h) fun _ _ => rfl) ?_
  rw [show 2 * (5 : Fin 6).val + 2 = 12 from rfl, upTo_all]
  unfold WP
  rw [wp_ret]
  iintro H
  imodintro
  iexists _; iexists _; iexists _
  iexact H

end Cert.Proof.Kernel
-- ==== Proof.Launch.lean ====
/-
  The launch. The call takes the two tables and the result whole; a tile is lent a read share of each table and owns its
  planes of the result. Each tile hands its planes back unpooled (`tile_run`), and so the call hands back the result
  unpooled whole. `@main` reshapes its arguments to the tables before the call and the result after it. `run_main`: every
  execution ends with the arguments as they were, the result at that value and every semaphore at zero.
-/
module

public import proofs.«01_k».proof.Proof.Tile
public import Idealize.ShloMosaic.Lib.SparseCore.Stream

@[expose] public section

noncomputable section

namespace Cert.Proof.Kernel

open Cert.Kernel Cert.Kernel.Gen Cert.Proof.Unpool

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx (ix2 eq_ix2)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

/-- The value argument, the index argument and the program's result, as locations of device `d`. -/
abbrev aLoc (d : Dev nD) : Loc nD τ sig := (SparseCore.T d).loc main_arg0
abbrev nLoc (d : Dev nD) : Loc nD τ sig := (SparseCore.T d).loc main_arg1
abbrev rLoc (d : Dev nD) : Loc nD τ sig := (SparseCore.T d).loc main_v3

/-- The tables at the call: the arguments in rows. -/
def Xin (d : Dev nD) : S384x12544.Idx → Elt F .f32 := shapeCast S384x12544 (m (aLoc d)) shapeCasts_S2x2x96x112x112_S384x12544
def Iin (d : Dev nD) : S192x12544.Idx → BitVec 32 := shapeCast S192x12544 (m (nLoc d)) shapeCasts_S2x96x112x112_S192x12544

/-- The result of the call, and of the program. -/
def Oout (d : Dev nD) : S384x50176.Idx → Elt F .f32 := unpool (Xin m d) (Iin m d) zero
def result (d : Dev nD) : S2x2x96x224x224.Idx → Elt F .f32 := shapeCast S2x2x96x224x224 (Oout m d) shapeCasts_S384x50176_S2x2x96x224x224

/-- The indices of the launch memory lie in a plane. -/
def PreOK : Prop := ∀ (d : Dev nD) (i : S2x96x112x112.Idx), ((m (nLoc d) : S2x96x112x112.Idx → BitVec 32) i).toNat < 50176

variable {m} in
theorem PreOK.table (h : PreOK m) (d : Dev nD) (i : S192x12544.Idx) : (Iin m d i).toNat < 50176 := h d _

/-! ## What a tile is handed -/

/-- The tile's share of the tables. -/
def tileShare (c : Fin 2) (s : Fin 16) : PosShare TreeShare := pieceOf (pieceOf fullShare 2 (by decide) c) 16 (by decide) s

/-- A table read by everybody is a share of it for each tile. -/
theorem shares {ℓ : Loc nD τ sig} (f : Buf (Elt F) ℓ) :
    (ℓ ↦{fullShare} f : sProp 𝕄) = bigSep Finset.univ fun c : Fin 2 => bigSep Finset.univ fun s : Fin 16 => ℓ ↦{tileShare c s} f := by
  rw [pointsTo_piecesOf Finset.univ f (o := 2) (by decide) fullShare]
  exact bigSep_congr fun c _ => pointsTo_piecesOf Finset.univ f (o := 16) (by decide) _

/-- Elements of a buffer held together are held class by class, whatever the classes. -/
theorem classes {ℓ : Loc nD τ sig} (f : Buf (Elt F) ℓ) {n : ℕ} (I : Finset (Idx ℓ)) (g : Idx ℓ → Fin n) :
    (ℓ ↦[I]{fullShare} f : sProp 𝕄) = bigSep Finset.univ fun k : Fin n => ℓ ↦[I.filter fun i => g i = k]{fullShare} f := by
  rw [← pointsTo_biUnion Finset.univ (ℓ := ℓ) (fun k : Fin n => I.filter fun i => g i = k) fun a _ b _ h =>
    Finset.disjoint_left.mpr fun i ha hb => h ((Finset.mem_filter.mp ha).2.symm.trans (Finset.mem_filter.mp hb).2)]
  congr 1
  ext i
  simp only [Finset.mem_biUnion, Finset.mem_filter, Finset.mem_univ, true_and]
  exact ⟨fun h => ⟨g i, h, rfl⟩, fun ⟨_, h, _⟩ => h⟩

/-- Each plane has one of the 32 tiles for an owner. -/
theorem owner_lt (r : Fin 384) : owner r < 32 := by
  unfold owner
  have := (pairRow r).isLt
  omega

/-- The result is every tile's planes. -/
theorem planes (d : Dev nD) (f : Buf (Elt F) (oLoc d)) :
    (oLoc d ↦{fullShare} f : sProp 𝕄)
      = bigSep Finset.univ fun c : Fin 2 => bigSep Finset.univ fun s : Fin 16 => oLoc d ↦[mine (coordsV c s)]{fullShare} f := by
  rw [classes f Finset.univ fun i : S384x50176.Idx => (⟨owner (i 0) % 2, Nat.mod_lt _ (by decide)⟩ : Fin 2)]
  refine bigSep_congr fun c _ => ?_
  rw [classes f _ fun i : S384x50176.Idx => (⟨owner (i 0) / 2, by have := owner_lt (i 0); omega⟩ : Fin 16)]
  refine bigSep_congr fun s _ => ?_
  refine congrArg (fun J : Finset S384x50176.Idx => (oLoc d ↦[J]{fullShare} f : sProp 𝕄)) (Finset.ext fun i => ?_)
  have hc : c.val < 2 := c.isLt
  unfold mine tileNo
  rw [Finset.mem_filter, Finset.mem_filter, Finset.mem_filter, Fin.ext_iff, Fin.ext_iff]
  show (_ ∧ owner (i 0) % 2 = c.val) ∧ owner (i 0) / 2 = s.val ↔ _ ∧ owner (i 0) = 2 * s.val + c.val
  refine ⟨fun h => ⟨Finset.mem_univ _, ?_⟩, fun h => ⟨⟨Finset.mem_univ _, ?_⟩, ?_⟩⟩
  · obtain ⟨⟨-, h1⟩, h2⟩ := h; omega
  · obtain ⟨-, h⟩ := h; omega
  · obtain ⟨-, h⟩ := h; omega

/-- What tile `(c, s)` is handed, and hands back, with its planes of the result at `f`. -/
def share (d : Dev nD) (f : Buf (Elt F) (oLoc d)) (c : Fin 2) (s : Fin 16) : sProp 𝕄 :=
  iprop((xLoc d ↦{tileShare c s} Xin m d) ∗ (iLoc d ↦{tileShare c s} Iin m d) ∗ oLoc d ↦[mine (coordsV c s)]{fullShare} f)

instance share_storable (d : Dev nD) (f : Buf (Elt F) (oLoc d)) (c : Fin 2) (s : Fin 16) : BI.Storable (upEmb : UEmb _ 𝕄) (share m d f c s) := by
  unfold share; infer_instance

/-- All tiles' shares together are the two tables and the result. -/
theorem all_shares (d : Dev nD) (f : Buf (Elt F) (oLoc d)) :
    (bigSep Finset.univ fun c : Fin 2 => bigSep Finset.univ fun s : Fin 16 => share m d f c s)
      = iprop((xLoc d ↦{fullShare} Xin m d) ∗ (iLoc d ↦{fullShare} Iin m d) ∗ oLoc d ↦{fullShare} f) := by
  rw [shares (F := F) (ℓ := xLoc d), shares (F := F) (ℓ := iLoc d), planes]
  unfold share
  simp only [bigSep_sep']

/-- The call's payloads: a SparseCore is handed its tiles' shares, a tile its own, and each gives it back with the result
    computed. -/
def P : (K (F := F)).Pay (nD := nD) (Val := Elt F) (Name := ℕ) (U := UU) where
  st := fun _ d c => bigSep Finset.univ fun s : Fin 16 => share m d (m (oLoc d)) (Fin.ofNat 2 c.val) s
  dn := fun _ d c => bigSep Finset.univ fun s : Fin 16 => share m d (Oout m d) (Fin.ofNat 2 c.val) s
  go := fun _ d c s => share m d (m (oLoc d)) (Fin.ofNat 2 c.val) (Fin.ofNat 16 s.val)
  td := fun _ d c s => share m d (Oout m d) (Fin.ofNat 2 c.val) (Fin.ofNat 16 s.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A tile's task -/

section Tile

variable (d : Dev nD) (L : grid0.Coords)

/-- The three scratches are among the tile's own buffers. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- The task of tile `L`: from its share of the launch to its share with its planes unpooled, its scratch and its
    semaphores given back. -/
theorem tile_body (hpre : PreOK m) (q : PosShare TreeShare) (O : CellTallies nD τ sig (HIx 1)) (W : Waits sig (HIx 1)) (hO : ∀ g, O g none = 0) :
    iprop(levAts (K (F := F)).L (K (F := F)).lev ∗ emp
        ∗ ((xLoc d ↦{q} Xin m d) ∗ (iLoc d ↦{q} Iin m d) ∗ oLoc d ↦[mine L]{fullShare} m (oLoc d))
        ∗ scopedBufs (thr d L) ∗ scopedSems0 (thr d L) ∗ owes (thr d L) O W)
      ⊢ WP d L (cc0__unpool_body L xV (Memref.isWhole_whole _) iV (Memref.isWhole_whole _) oV (Memref.isWhole_whole _)
        sI (Memref.isWhole_whole _) sX (Memref.isWhole_whole _) sO (Memref.isWhole_whole _)
        cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29)
      fun _ => iprop(((xLoc d ↦{q} Xin m d) ∗ (iLoc d ↦{q} Iin m d) ∗ oLoc d ↦[mine L]{fullShare} Oout m d)
        ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownBufs_V]
  iintro ⟨#Hlv, -, ⟨Hx, Hi, Ho⟩, ⟨⟨%io, Hs⟩, ⟨%xo, Hsx⟩, ⟨%oo, Hc⟩, Hbufs⟩, Hsems, HO⟩
  iapply (wp_wand (frame (U := UU)) _ _) $$ [Hx Hi Ho Hs Hsx Hc Hsems HO]
  · iapply (tile_run d L (O := O) (W := W) (q := q) (X := Xin m d) (I := Iin m d) (ob := m (oLoc d)) (io := io) (xo := xo) (oo := oo) (hpre.table d))
    unfold St Rest
    isplitl [Hx Hi Hsems HO]
    · isplitr
      · iapply ((K (F := F)).mayWaits_none (thr := thr d L) hO); iexact Hlv
      isplitl [Hx]; · iexact Hx
      isplitl [Hi]; · iexact Hi
      isplitl [Hsems]; · iexact Hsems
      iexists W
      isplitr
      · ipureintro; exact fun _ h => .inl h
      iexact HO
    isplitl [Ho]; · iexact Ho
    isplitl [Hs]; · iexact Hs
    isplitl [Hsx]; · iexact Hsx
    iexact Hc
  iintro %_ ⟨%io, %xo, %oo, H⟩
  unfold St Rest
  icases H with ⟨⟨-, Hx, Hi, Hsems, HO⟩, Ho, Hs, Hsx, Hc⟩
  isplitl [Hx Hi Ho]
  · isplitl [Hx]; · iexact Hx
    isplitl [Hi]; · iexact Hi
    iexact Ho
  isplitl [Hs Hsx Hc Hbufs]
  · isplitl [Hs]
    · iexists _; iexact Hs
    isplitl [Hsx]
    · iexists _; iexact Hsx
    isplitl [Hc]
    · iexists _; iexact Hc
    iexact Hbufs
  isplitl [Hsems]; · iexact Hsems
  iexact HO

end Tile

/-! ## The launch theorem's obligations -/

/-- The call runs the tile program on every vector subcore. -/
theorem defs₀_vector (c : Fin τ.nSC) (s : Fin τ.nSub) :
    defs₀ (F := F) (.scVector c s) 0 ()
      = SparseCore.onTile hcore0 hsub0 (fun c s => cc0__unpool_body (coordsV c s) xV (Memref.isWhole_whole _) iV (Memref.isWhole_whole _) oV (Memref.isWhole_whole _)
          sI (Memref.isWhole_whole _) sX (Memref.isWhole_whole _) sO (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29) ⟨⟩ c s := rfl

/-- The end of a tile, read from its separate parts. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

/-- The call's grid is the SparseCores and their tiles, so the numbers of a tile are its coordinates. -/
theorem share_coords (d : Dev nD) (f : Buf (Elt F) (oLoc d)) (c : Fin (grid0.bound 0)) (s : Fin (grid0.bound 1)) :
    share m d f (Fin.ofNat 2 c.val) (Fin.ofNat 16 s.val)
      = iprop((xLoc d ↦{tileShare c s} Xin m d) ∗ (iLoc d ↦{tileShare c s} Iin m d) ∗ oLoc d ↦[mine (coordsV c s)]{fullShare} f) := by
  rw [show (Fin.ofNat 2 c.val : Fin 2) = c from Fin.ext (Nat.mod_eq_of_lt c.isLt),
    show (Fin.ofNat 16 s.val : Fin 16) = s from Fin.ext (Nat.mod_eq_of_lt s.isLt)]
  rfl

/-- Every tile does what it was handed the work for. -/
theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [show (P m).go 0 d c i = _ from share_coords m d (m (oLoc d)) ⟨_, hc.1⟩ ⟨_, hc.2⟩, show (P m).td 0 d c i = _ from share_coords m d (Oout m d) ⟨_, hc.1⟩ ⟨_, hc.2⟩]
  exact (tile_body m d (coordsV ⟨_, hc.1⟩ ⟨_, hc.2⟩) hpre _ O W hO).trans (wp_mono frame _ _ fun _ => obl_post)

/-- What a SparseCore is handed divides among its tiles, and their ends make up its end. -/
theorem vecSplit : (K (F := F)).VecSplit' (P m) 0 := by
  intro d c
  have tasks : ∀ Φ : Fin 16 → sProp 𝕄, (bigSep Finset.univ fun i : Fin ((K (F := F)).nSub 0) => Φ (Fin.ofNat 16 i.val)) = bigSep Finset.univ Φ :=
    fun Φ => bigSep_congr fun i _ => congrArg Φ (Fin.ext (Nat.mod_eq_of_lt i.isLt))
  show (bigSep Finset.univ fun s : Fin 16 => share m d (m (oLoc d)) (Fin.ofNat 2 c.val) s) ⊢ |={Set.univ}=> iprop(
      (bigSep Finset.univ fun i : Fin ((K (F := F)).nSub 0) => share m d (m (oLoc d)) (Fin.ofNat 2 c.val) (Fin.ofNat 16 i.val))
      ∗ ((bigSep Finset.univ fun i : Fin ((K (F := F)).nSub 0) => share m d (Oout m d) (Fin.ofNat 2 c.val) (Fin.ofNat 16 i.val))
        -∗ bigSep Finset.univ fun s : Fin 16 => share m d (Oout m d) (Fin.ofNat 2 c.val) s))
  rw [tasks (share m d (m (oLoc d)) (Fin.ofNat 2 c.val)), tasks (share m d (Oout m d) (Fin.ofNat 2 c.val))]
  iintro H; imodintro
  isplitl [H]; · iexact H
  iintro H; iexact H

/-- The launch element: the handshakes' rounds, and no transfer counted yet. -/
def u₀ : UU := (initOf (K (F := F)).hsCells (K (F := F)).hsToks, 1)

/-- The ghost state the launch starts from. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · iapply (Entails.of_eq (bigSep_emp_const (M := 𝕄) (Finset.univ : Finset (Dev nD))).symm); iempintro
  rw [show (bigSep Finset.univ fun thr : Thread nD τ => bigSep Finset.univ fun q : Fin 1 => (P m).x q thr) = (iprop(emp) : sProp 𝕄) from
    (bigSep_congr fun _ _ => bigSep_emp_const _).trans (bigSep_emp_const _)]
  iempintro

/-! ## @main on the TensorCore -/

abbrev a' : DevRef τ sig := Proc.devRef .tc (main_arg0 : Ref sig .tc)
abbrev n' : DevRef τ sig := Proc.devRef .tc (main_arg1 : Ref sig .tc)
abbrev x' : DevRef τ sig := Proc.devRef .tc (main_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The program's three reshapes. -/
abbrev opX : HloOp τ sig (Elt F) := StableHlo.reshape main_arg0 main_v0 (rfl : (.f32 : EltTy) = .f32) shapeCasts_S2x2x96x112x112_S384x12544
abbrev opI : HloOp τ sig (Elt F) := StableHlo.reshape main_arg1 main_v1 (rfl : (.i32 : EltTy) = .i32) shapeCasts_S2x96x112x112_S192x12544
abbrev opR : HloOp τ sig (Elt F) := StableHlo.reshape main_v2 main_v3 (rfl : (.f32 : EltTy) = .f32) shapeCasts_S384x50176_S2x2x96x224x224

/-- The TensorCore's arrays. -/
abbrev S6 : Finset (DevRef τ sig) := {a', n', x', i', o', r'}

/-- The six arrays of `@main`, held one by one. -/
theorem held_S6 (d : Dev nD) (W : Valuation τ sig (Elt F)) :
    (held (T d) S6 W : sProp 𝕄) = iprop((aLoc d ↦{fullShare} W a') ∗ (nLoc d ↦{fullShare} W n') ∗ (xLoc d ↦{fullShare} W x') ∗ (iLoc d ↦{fullShare} W i')
      ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The six arrays are all that outlive a scope. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (nLoc d ↦{fullShare} W main_arg1) ∗ (xLoc d ↦{fullShare} W main_v0)
      ∗ (iLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays' contents at the launch, at the call, after it, and at the end. -/
def V0 (d : Dev nD) : Valuation τ sig (Elt F) := fun b => m (d, b)
def V1 (d : Dev nD) : Valuation τ sig (Elt F) := opI.result (opX.result (V0 m d))
def V2 (d : Dev nD) : Valuation τ sig (Elt F) := Function.update (V1 m d) o' (Oout m d)
def V3 (d : Dev nD) : Valuation τ sig (Elt F) := opR.result (V2 m d)

/-- The launch memory holds them at their launch values. -/
theorem unscoped_held (d : Dev nD) : (unscopedBufs d (fun b => m ((SparseCore.T d).loc b)) : sProp 𝕄) = held (T d) S6 (V0 m d) := by
  rw [unscopedBufs_eq, held_S6]; rfl

/-- At the call the value table is the value argument in rows. -/
theorem V1_x (d : Dev nD) : V1 m d x' = Xin m d :=
  (StableHlo.reshape_result_ne _ _ _ _ _ _ _ (show (main_v0 : Ref sig .tc) ≠ main_v1 by decide)).trans (StableHlo.reshape_result _ _ _ _ _ _ _)

/-- At the call the index table is the index argument in rows. -/
theorem V1_i (d : Dev nD) : V1 m d i' = Iin m d := by
  refine (StableHlo.reshape_result _ _ _ _ _ _ _).trans ?_
  show shapeCast S192x12544 (opX.result (V0 m d) n') _ = _
  rw [show opX.result (V0 m d) n' = m (nLoc d) from StableHlo.reshape_result_ne _ _ _ _ _ _ _ (show (main_arg1 : Ref sig .tc) ≠ main_v0 by decide)]
  rfl

/-- The reshapes before the call write the tables only. -/
theorem V1_ne (d : Dev nD) {b : Ref sig .tc} (hx : b ≠ main_v0) (hi : b ≠ main_v1) : V1 m d (Proc.devRef .tc b) = m ((SparseCore.T d).loc b) :=
  (StableHlo.reshape_result_ne _ _ _ _ _ _ _ hi).trans (StableHlo.reshape_result_ne _ _ _ _ _ _ _ hx)

/-- The call changes its result alone. -/
theorem V2_ne (d : Dev nD) {b : Ref sig .tc} (h : b ≠ main_v2) : V2 m d (Proc.devRef .tc b) = V1 m d (Proc.devRef .tc b) :=
  Function.update_of_ne (StableHlo.devRef_ne_of_ne h) _ _

/-- After the call its result is the unpooled planes. -/
theorem V2_o (d : Dev nD) : V2 m d o' = Oout m d := Function.update_self _ _ _

/-- The program's result is those planes in its own shape. -/
theorem V3_r (d : Dev nD) : V3 m d r' = result m d := by
  refine (StableHlo.reshape_result _ _ _ _ _ _ _).trans ?_
  show shapeCast S2x2x96x224x224 (V2 m d o') _ = _
  rw [V2_o]
  rfl

/-- The arguments are never written. -/
theorem V3_ne (d : Dev nD) {b : Ref sig .tc} (hx : b ≠ main_v0) (hi : b ≠ main_v1) (ho : b ≠ main_v2) (hr : b ≠ main_v3) :
    V3 m d (Proc.devRef .tc b) = m ((SparseCore.T d).loc b) :=
  (StableHlo.reshape_result_ne _ _ _ _ _ _ _ hr).trans ((V2_ne m d ho).trans (V1_ne m d hx hi))

/-- What the call takes for the SparseCores, and what it hands back: the tables and the result, the result computed. -/
theorem st0_eq (d : Dev nD) : (bigSep Finset.univ fun c : Fin ((K (F := F)).nCore 0) => (P m).st 0 d c)
    = iprop((xLoc d ↦{fullShare} Xin m d) ∗ (iLoc d ↦{fullShare} Iin m d) ∗ oLoc d ↦{fullShare} m (oLoc d)) := by
  rw [← all_shares]
  exact bigSep_congr fun c _ => congrArg (fun c => bigSep Finset.univ fun s : Fin 16 => share m d (m (oLoc d)) c s) (Fin.ext (Nat.mod_eq_of_lt c.isLt))
/-- What the tiles hand back, put together, is the result whole. -/
theorem dn0_eq (d : Dev nD) : (bigSep Finset.univ fun c : Fin ((K (F := F)).nCore 0) => (P m).dn 0 d c)
    = iprop((xLoc d ↦{fullShare} Xin m d) ∗ (iLoc d ↦{fullShare} Iin m d) ∗ oLoc d ↦{fullShare} Oout m d) := by
  rw [← all_shares]
  exact bigSep_congr fun c _ => congrArg (fun c => bigSep Finset.univ fun s : Fin 16 => share m d (Oout m d) c s) (Fin.ext (Nat.mod_eq_of_lt c.isLt))

/-- What the TensorCore ends with: the arguments as they were, the result at its value. -/
abbrev FIN (d : Dev nD) : sProp 𝕄 :=
  iprop((aLoc d ↦{fullShare} m (aLoc d)) ∗ (nLoc d ↦{fullShare} m (nLoc d)) ∗ rLoc d ↦{fullShare} result m d)

/-- @main on device `d`'s TensorCore: the two reshapes, the call, the reshape of what it computed. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) (show ({a', x'} : Finset (DevRef τ sig)) ⊆ S6 by decide) (V := V0 m d)) $$ [Hb Hheld]
  · isplitl [Hb] <;> iassumption
  iintro ⟨Hb, Hheld⟩
  rw [wp_ret]; imodintro
  iapply (wp_hlo_within 𝒱 (SparseCore.T d) none Set.univ (op := opI) (S := S6) (show ({n', i'} : Finset (DevRef τ sig)) ⊆ S6 by decide) (V := opX.result (V0 m d))) $$ [Hb Hheld]
  · isplitl [Hb] <;> iassumption
  iintro ⟨Hb, Hheld⟩
  rw [wp_ret]; imodintro
  ihave Hh := (Entails.of_eq ((show held (T d) S6 (opI.result (opX.result (V0 m d))) = held (T d) S6 (V1 m d) from rfl).trans (held_S6 d (V1 m d)))) $$ Hheld
  icases Hh with ⟨Ha, Hn, Hx, Hi, Ho, Hr⟩
  rw [V1_x, V1_i, V1_ne m d (b := main_v2) (by decide) (by decide)]
  iapply ((K (F := F)).wp_run (D (F := F)) 𝒱 (EH := EH) (P := P m) κ d 0) $$ [Hst Ha Hn Hx Hi Ho Hb Hr Hts]
  isplitr; · iexact Hctx
  isplitl [Hst]; · iexact Hst
  isplitl [Hx Hi Ho]
  · rw [st0_eq]
    isplitl [Hx]; · iexact Hx
    isplitl [Hi]; · iexact Hi
    iexact Ho
  iintro ⟨Hst, Hdn⟩
  ihave Hdn' := (Entails.of_eq (dn0_eq m d)) $$ Hdn
  icases Hdn' with ⟨Hx, Hi, Ho⟩
  iapply (wp_hlo_within 𝒱 (SparseCore.T d) none Set.univ (op := opR) (S := S6) (show ({o', r'} : Finset (DevRef τ sig)) ⊆ S6 by decide) (V := V2 m d)) $$ [Hb Ha Hn Hx Hi Ho Hr]
  · isplitl [Hb]; · iexact Hb
    rw [held_S6, V2_o, V2_ne m d (b := main_arg0) (by decide), V2_ne m d (b := main_arg1) (by decide), V2_ne m d (b := main_v0) (by decide),
      V2_ne m d (b := main_v1) (by decide), V2_ne m d (b := main_v3) (by decide), V1_x, V1_i]
    isplitl [Ha]; · iexact Ha
    isplitl [Hn]; · iexact Hn
    isplitl [Hx]; · iexact Hx
    isplitl [Hi]; · iexact Hi
    isplitl [Ho]; · iexact Ho
    iexact Hr
  iintro ⟨Hb, Hheld⟩
  ihave Hh := (Entails.of_eq ((show held (T d) S6 (opR.result (V2 m d)) = held (T d) S6 (V3 m d) from rfl).trans (held_S6 d (V3 m d)))) $$ Hheld
  icases Hh with ⟨Ha, Hn, -, -, -, Hr⟩
  rw [V3_r, V3_ne m d (b := main_arg0) (by decide) (by decide) (by decide) (by decide),
    V3_ne m d (b := main_arg1) (by decide) (by decide) (by decide) (by decide)]
  rw [wp_ret]; imodintro; imodintro
  isplitl [Hst]; · iexact Hst
  isplitr [Hb Hts]
  · isplitl [Ha]; · iexact Ha
    isplitl [Hn]; · iexact Hn
    iexact Hr
  isplitl [Hb] <;> iassumption

def fq (d : Dev nD) (s' : Phys nD τ sig (Elt F)) : Prop :=
  s'.mem.mem (aLoc d) = m (aLoc d) ∧ s'.mem.mem (nLoc d) = m (nLoc d) ∧ s'.mem.mem (rLoc d) = result m d

/-- What `@main` holds at its end says what the memory is. -/
theorem hfin (d : Dev nD) (s' : Phys nD τ sig (Elt F)) : iprop(FIN m d ∗ SI s') ⊢ (⌜fq m d s'⌝ : sProp 𝕄) := by
  iintro ⟨⟨Ha, Hn, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%h2, HSI, -⟩
  ihave H := (SI_pointsTo_agree (st := s') (ℓ := rLoc d) (I := Finset.univ) (q := fullShare) (f := result m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- What every execution ends with. -/
def QC : PUnit × MemSt nD τ sig (Elt F) → Prop := fun r =>
  (∀ c : Dev nD, r.2.mem (aLoc c) = m (aLoc c) ∧ r.2.mem (nLoc c) = m (nLoc c) ∧ r.2.mem (rLoc c) = result m c) ∧ r.2.sem = fun _ => 0

/-- Every execution ends, with the arguments as they were, the result unpooled and every semaphore at zero. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Kernel
-- ==== Proof.RefValue.lean ====
/-
  The reference's value. For each frame the reference writes the frame's values into zeroed planes at (row, position)
  pairs, in row-major order, so a position of a plane ends at the value of the last entry of its own index row that
  names it (`frame_apply`). The two frames laid side by side are the planes of `unpool`, reshaped (`reference_eq`).
-/
module

public import proofs.«01_k».proof.Proof.Spec
public import proofs.«01_k».proof.Proof.Gen.ReferenceIdeal
public import Idealize.ShloMosaic.Lib.ScatterToDense.RefScatter
public import Idealize.ShloMosaic.Lib.Pipeline.Value

@[expose] public section

noncomputable section

namespace Cert.Proof.Reference

open Idealize.ShloMosaic Cert.ReferenceIdeal Cert.ReferenceIdeal.Facts₀ Cert.Proof.Unpool
open Idealize.ShloMosaic.ValueIdx (ix1 ix2 ix3 ix4 ix5 eq_ix5)

variable {F : FTy → Type} [FloatOps F]

/-! ## The reference's expression, in pieces -/

/-- The row numbers, and the number 192 added to the negative ones (there are none). -/
def rowNumbers : IVec S192x1 32 := broadcastInDim S192x1 ![0] bcast_S192_S192x1_0 (iotaInDim S192 32 0)
def rowWords : IVec S192x1 32 :=
  select (cmpi .slt rowNumbers (broadcastInDim S192x1 ![] bcast_S_S192x1 (constantI S_ 32 0#32)))
    (addi rowNumbers (broadcastInDim S192x1 ![] bcast_S_S192x1 (constantI S_ 32 192#32))) rowNumbers

/-- The index table, 50176 added to its negative words. -/
def posWords (I : IVec S192x12544 32) : IVec S192x12544 32 :=
  select (cmpi .slt I (broadcastInDim S192x12544 ![] bcast_S_S192x12544 (constantI S_ 32 0#32)))
    (addi I (broadcastInDim S192x12544 ![] bcast_S_S192x12544 (constantI S_ 32 50176#32))) I

/-- The (row, position) pairs the values are written at. -/
def pairs (I : IVec S192x12544 32) : IVec S192x12544x2 32 :=
  concatenate S192x12544x2 2
    [⟨S192x12544x1, broadcastInDim S192x12544x1 ![0, 1] bcast_S192x12544_S192x12544x1_0_1
        (broadcastInDim S192x12544 ![0, 1] bcast_S192x1_S192x12544_0_1 rowWords)⟩,
      ⟨S192x12544x1, broadcastInDim S192x12544x1 ![0, 1] bcast_S192x12544_S192x12544x1_0_1 (posWords I)⟩]
    concatenates_S192x12544x1_S192x12544x1_S192x12544x2_d2

/-- The planes one frame's values `Y` are written into. -/
def planes (I : IVec S192x12544 32) (Y : FVec F S192x12544 .f32) : FVec F S192x50176 .f32 :=
  Host.scatter scatter_S192x50176_S192x12544x2_S192x12544_n_01_01_2 (fun _ b => b)
    (broadcastInDim S192x50176 ![] bcast_S_S192x50176 (constant S_ .f32 0x00000000#32)) (pairs I) Y

/-- One frame of the result. -/
def frame (I : IVec S192x12544 32) (Y : FVec F S192x12544 .f32) : FVec F S2x1x96x224x224 .f32 :=
  broadcastInDim S2x1x96x224x224 ![0, 2, 3, 4] bcast_S2x96x224x224_S2x1x96x224x224_0_2_3_4
    (shapeCast S2x96x224x224 (planes I Y) shapeCasts_S192x50176_S2x96x224x224)

/-- The values of frames 0 and 1, in rows. -/
def values0 (A : FVec F S2x2x96x112x112 .f32) : FVec F S192x12544 .f32 :=
  shapeCast S192x12544 (shapeCast S2x96x112x112 (extractStridedSlice S2x1x96x112x112 ![0, 0, 0, 0, 0] A
    slices_S2x2x96x112x112_S2x1x96x112x112_0_0_0_0_0) shapeCasts_S2x1x96x112x112_S2x96x112x112) shapeCasts_S2x96x112x112_S192x12544
def values1 (A : FVec F S2x2x96x112x112 .f32) : FVec F S192x12544 .f32 :=
  shapeCast S192x12544 (shapeCast S2x96x112x112 (extractStridedSlice S2x1x96x112x112 ![0, 1, 0, 0, 0] A
    slices_S2x2x96x112x112_S2x1x96x112x112_0_1_0_0_0) shapeCasts_S2x1x96x112x112_S2x96x112x112) shapeCasts_S2x96x112x112_S192x12544

/-- The index table. -/
def table (N : IVec S2x96x112x112 32) : IVec S192x12544 32 := shapeCast S192x12544 N shapeCasts_S2x96x112x112_S192x12544

/-- The reference's result on the values `A` and the index words `N`. -/
def value (A : FVec F S2x2x96x112x112 .f32) (N : IVec S2x96x112x112 32) : FVec F S2x2x96x224x224 .f32 :=
  concatenate S2x2x96x224x224 1 [⟨S2x1x96x224x224, frame (table N) (values0 A)⟩, ⟨S2x1x96x224x224, frame (table N) (values1 A)⟩]
    concatenates_S2x1x96x224x224_S2x1x96x224x224_S2x2x96x224x224_d1

/-! ## The pairs -/

/-- A row number is not negative, so it stays. -/
theorem rowWords_apply (p : Fin 192) : rowWords (ix2 p (0 : Fin 1)) = BitVec.ofNat 32 p.val := by
  have e : rowNumbers (ix2 p (0 : Fin 1)) = BitVec.ofNat 32 p.val :=
    (broadcastInDim_apply (s := S192) (t := S192x1) ![0] bcast_S192_S192x1_0 (iotaInDim S192 32 0) (ix2 p (0 : Fin 1)) (ix1 p)
      (by intro a; fin_cases a; rfl)).trans rfl
  refine (Routing.wrap_of_lt (rowNumbers (ix2 p (0 : Fin 1))) _ ?_).trans e
  rw [e, BitVec.toNat_ofNat]
  have := p.isLt
  exact Nat.lt_of_le_of_lt (Nat.mod_le _ _) (by show p.val < 2 ^ 31; omega)

/-- An index word of a plane is not negative, so it stays. -/
theorem posWords_apply (I : IVec S192x12544 32) (i : S192x12544.Idx) (h : (I i).toNat < 50176) : posWords I i = I i :=
  Routing.wrap_of_lt (I i) _ (Nat.lt_trans h (by decide))

/-- The first word of a pair is the row. -/
theorem pairs_row (I : IVec S192x12544 32) (p : Fin 192) (l : Fin 12544) : pairs I (ix3 p l (0 : Fin 2)) = BitVec.ofNat 32 p.val := by
  refine (concatenate_pair_apply_left (t := S192x12544x2) (s₁ := S192x12544x1) 2 _ _ _ (ix3 p l (0 : Fin 2)) rfl (ix3 p l (0 : Fin 1)) (by intro b; fin_cases b <;> rfl)).trans ?_
  refine (broadcastInDim_apply ![0, 1] bcast_S192x12544_S192x12544x1_0_1 _ (ix3 p l (0 : Fin 1)) (ix2 p l) (by intro b; fin_cases b <;> rfl)).trans ?_
  refine (broadcastInDim_apply ![0, 1] bcast_S192x1_S192x12544_0_1 _ (ix2 p l) (ix2 p (0 : Fin 1)) (by intro b; fin_cases b <;> rfl)).trans ?_
  exact rowWords_apply p

/-- The second word of a pair is the index word. -/
theorem pairs_pos (I : IVec S192x12544 32) (h : ∀ i, (I i).toNat < 50176) (p : Fin 192) (l : Fin 12544) :
    pairs I (ix3 p l (1 : Fin 2)) = I (ix2 p l) := by
  refine (concatenate_pair_apply_right (t := S192x12544x2) (s₁ := S192x12544x1) (s₂ := S192x12544x1) 2 _ _ _ (ix3 p l (1 : Fin 2)) rfl rfl
    (ix3 p l (0 : Fin 1)) (by intro b hb; fin_cases b <;> first | rfl | exact absurd rfl hb) rfl).trans ?_
  refine (broadcastInDim_apply ![0, 1] bcast_S192x12544_S192x12544x1_0_1 _ (ix3 p l (0 : Fin 1)) (ix2 p l) (by intro b; fin_cases b <;> rfl)).trans ?_
  exact posWords_apply I _ (h _)

/-! ## The planes -/

/-- The last hit as the library's list of candidates reads it. -/
theorem lastHit_eq_GS {α : Type} (word : ℕ → BitVec 32) (val : ℕ → α) (z : α) (col n : ℕ) :
    ScatterToDense.GS word val z col n = lastHit (fun l => (word l).toNat = col) val z n := by
  induction n with
  | zero => rfl
  | succ n ih => rw [ScatterToDense.GS_succ, lastHit_succ, ih]; exact if_congr eq_comm rfl rfl

/-- Entry `l` of a row, `l` below the row's length. -/
theorem entry_rowOf {α : Type} {R N : ℕ} [NeZero N] (X : (⟨2, ![R, N]⟩ : Shape).Idx → α) (r : Fin R) (l : Fin N) :
    entry (rowOf X r) l.val = X (ix2 r l) :=
  congrArg (fun q => X (ix2 r q)) (Fin.ext (Nat.mod_eq_of_lt l.isLt))

/-- Position `j` of plane `p`: the value of the last entry of index row `p` that names `j`, zero where none does. -/
theorem planes_apply (I : IVec S192x12544 32) (h : ∀ i, (I i).toNat < 50176) (Y : FVec F S192x12544 .f32) (p : Fin 192) (j : Fin 50176) :
    planes I Y (ix2 p j)
      = lastHit (fun l => (entry (rowOf I p) l).toNat = j.val) (entry (rowOf Y p)) (Scalar.ofBits .f32 0x00000000#32) 12544 := by
  refine (ScatterToDense.scatter_eq_GS scatter_S192x50176_S192x12544x2_S192x12544_n_01_01_2 rfl rfl rfl (by decide) (by decide) _ _ _
    (fun p => entry (rowOf I p)) (fun p => entry (rowOf Y p)) (pairs_row I) (fun i k => ?_) (fun i k => ?_) p j).trans ?_
  · exact (pairs_pos I h i k).trans (entry_rowOf I i k).symm
  · exact (entry_rowOf Y i k).symm
  · exact lastHit_eq_GS _ _ _ _ _

/-! ## The frames -/

/-- Row of batch `b`, channel `c`. -/
abbrev rowAt (b : Fin 2) (c : Fin 96) : Fin 192 := ⟨b.val * 96 + c.val, by omega⟩
/-- Position of line `y`, column `x`, in the plane and in a row of values. -/
abbrev posAt (y x : Fin 224) : Fin 50176 := ⟨y.val * 224 + x.val, by omega⟩
abbrev lineOf (l : Fin 12544) : Fin 112 := ⟨l.val / 112, by omega⟩
abbrev colOf (l : Fin 12544) : Fin 112 := ⟨l.val % 112, by omega⟩

/-- Places of indices counted row after row. -/
theorem place2 {A B : ℕ} (a : Fin A) (b : Fin B) : ((⟨2, ![A, B]⟩ : Shape).rowMajor (ix2 a b)).val = a.val * B + b.val :=
  Shape.rowMajor_val_two _
/-- The same of four coordinates. -/
theorem place4 {A B C D : ℕ} (a : Fin A) (b : Fin B) (c : Fin C) (d : Fin D) :
    ((⟨4, ![A, B, C, D]⟩ : Shape).rowMajor (ix4 a b c d)).val = ((a.val * B + b.val) * C + c.val) * D + d.val :=
  Shape.rowMajor_val_four _
/-- The same of five coordinates. -/
theorem place5 {A B C D E : ℕ} (a : Fin A) (b : Fin B) (c : Fin C) (d : Fin D) (e : Fin E) :
    ((⟨5, ![A, B, C, D, E]⟩ : Shape).rowMajor (ix5 a b c d e)).val = (((a.val * B + b.val) * C + c.val) * D + d.val) * E + e.val :=
  Shape.rowMajor_val_five _

/-- A frame at batch `b`, channel `c`, line `y`, column `x`. -/
theorem frame_apply (I : IVec S192x12544 32) (Y : FVec F S192x12544 .f32) (b : Fin 2) (c : Fin 96) (y x : Fin 224) :
    frame I Y (ix5 b (0 : Fin 1) c y x) = planes I Y (ix2 (rowAt b c) (posAt y x)) := by
  unfold frame
  generalize planes I Y = P
  have e : ∀ Q : FVec F S2x96x224x224 .f32, broadcastInDim S2x1x96x224x224 ![0, 2, 3, 4] bcast_S2x96x224x224_S2x1x96x224x224_0_2_3_4 Q
      (ix5 b (0 : Fin 1) c y x) = Q (ix4 b c y x) := fun Q =>
    broadcastInDim_apply (s := S2x96x224x224) (t := S2x1x96x224x224) ![0, 2, 3, 4] bcast_S2x96x224x224_S2x1x96x224x224_0_2_3_4 Q
      (ix5 b (0 : Fin 1) c y x) (ix4 b c y x) (by intro a; fin_cases a <;> simp)
  refine (e _).trans ?_
  refine shapeCast_apply P shapeCasts_S192x50176_S2x96x224x224 (ix4 b c y x) (ix2 (rowAt b c) (posAt y x)) ?_
  simp only [place2, place4]
  omega

/-- A row of values: the values of its batch and channel, line after line. -/
theorem rows_apply (Z : FVec F S2x1x96x112x112 .f32) (b : Fin 2) (c : Fin 96) (l : Fin 12544) :
    shapeCast S192x12544 (shapeCast S2x96x112x112 Z shapeCasts_S2x1x96x112x112_S2x96x112x112) shapeCasts_S2x96x112x112_S192x12544
      (ix2 (rowAt b c) l) = Z (ix5 b (0 : Fin 1) c (lineOf l) (colOf l)) := by
  refine (shapeCast_apply _ shapeCasts_S2x96x112x112_S192x12544 (ix2 (rowAt b c) l) (ix4 b c (lineOf l) (colOf l)) ?_).trans ?_
  · simp only [place2, place4]
    omega
  refine shapeCast_apply Z shapeCasts_S2x1x96x112x112_S2x96x112x112 (ix4 b c (lineOf l) (colOf l)) (ix5 b (0 : Fin 1) c (lineOf l) (colOf l)) ?_
  simp only [place5, place4, Fin.val_zero]
  omega

/-- The rows of frame 0 hold frame 0's values. -/
theorem values0_apply (A : FVec F S2x2x96x112x112 .f32) (b : Fin 2) (c : Fin 96) (l : Fin 12544) :
    values0 A (ix2 (rowAt b c) l) = A (ix5 b (0 : Fin 2) c (lineOf l) (colOf l)) :=
  (rows_apply _ b c l).trans (extractStridedSlice_apply _ A _ _ _ (by intro a; fin_cases a <;> simp))

/-- The rows of frame 1 hold frame 1's values. -/
theorem values1_apply (A : FVec F S2x2x96x112x112 .f32) (b : Fin 2) (c : Fin 96) (l : Fin 12544) :
    values1 A (ix2 (rowAt b c) l) = A (ix5 b (1 : Fin 2) c (lineOf l) (colOf l)) :=
  (rows_apply _ b c l).trans (extractStridedSlice_apply _ A _ _ _ (by intro a; fin_cases a <;> simp))

/-! ## The result -/

section Result

variable (A : FVec F S2x2x96x112x112 .f32) (N : IVec S2x96x112x112 32) (hN : ∀ i, (N i).toNat < 50176)
  (hA : S2x2x96x112x112.ShapeCasts ⟨2, ![384, 12544]⟩) (hO : (⟨2, ![384, 50176]⟩ : Shape).ShapeCasts S2x2x96x224x224)

/-- The planes of `unpool` in the result's shape. -/
abbrev unpooled : FVec F S2x2x96x224x224 .f32 :=
  shapeCast S2x2x96x224x224 (unpool (shapeCast ⟨2, ![384, 12544]⟩ A hA) (table N) (Scalar.ofBits .f32 0x00000000#32)) hO

/-- Row of batch `b`, frame `t`, channel `c`. -/
abbrev planeAt (b t : Fin 2) (c : Fin 96) : Fin 384 := ⟨b.val * 192 + t.val * 96 + c.val, by omega⟩

/-- Both frames of a batch and channel share one index row. -/
theorem pairRow_planeAt (b t : Fin 2) (c : Fin 96) : pairRow (planeAt b t c) = rowAt b c :=
  Fin.ext (show (b.val * 192 + t.val * 96 + c.val) / 192 * 96 + (b.val * 192 + t.val * 96 + c.val) % 96 = b.val * 96 + c.val by omega)

include hN in
/-- A frame whose values are those of frame `t` is frame `t` of the unpooled planes. -/
theorem frame_eq (t : Fin 2) (Y : FVec F S192x12544 .f32)
    (hY : ∀ b c l, Y (ix2 (rowAt b c) l) = A (ix5 b t c (lineOf l) (colOf l))) (b : Fin 2) (c : Fin 96) (y x : Fin 224) :
    frame (table N) Y (ix5 b (0 : Fin 1) c y x) = unpooled A N hA hO (ix5 b t c y x) := by
  rw [frame_apply, planes_apply (table N) (fun i => hN _)]
  refine Eq.trans ?_ (shapeCast_apply _ hO (ix5 b t c y x) (ix2 (planeAt b t c) (posAt y x)) ?_).symm
  · show _ = lastHit (fun l => (entry (rowOf (table N) (pairRow (planeAt b t c))) l).toNat = (posAt y x).val)
      (entry (rowOf (shapeCast ⟨2, ![384, 12544]⟩ A hA) (planeAt b t c))) (Scalar.ofBits .f32 0x00000000#32) 12544
    rw [pairRow_planeAt]
    refine lastHit_congr (fun _ _ => Iff.rfl) fun l hl => ?_
    rw [entry_rowOf Y (rowAt b c) ⟨l, hl⟩, entry_rowOf _ (planeAt b t c) ⟨l, hl⟩, hY]
    refine (shapeCast_apply A hA (ix2 (planeAt b t c) ⟨l, hl⟩) (ix5 b t c (lineOf ⟨l, hl⟩) (colOf ⟨l, hl⟩)) ?_).symm
    simp only [place2, place5]
    omega
  · simp only [place2, place5]
    omega

include hN in
/-- The reference's result is the unpooled planes, where the index words name positions of a plane. -/
theorem value_eq : value A N = unpooled A N hA hO := by
  funext j
  rw [eq_ix5 j]
  generalize (j 0 : Fin 2) = b, (j 1 : Fin 2) = t, (j 2 : Fin 96) = c, (j 3 : Fin 224) = y, (j 4 : Fin 224) = x
  unfold value
  fin_cases t
  · exact (concatenate_pair_apply_left (t := S2x2x96x224x224) (s₁ := S2x1x96x224x224) 1 _ _ _ (ix5 b (0 : Fin 2) c y x) rfl
      (ix5 b (0 : Fin 1) c y x) (by intro q; fin_cases q <;> rfl)).trans (frame_eq A N hN hA hO 0 _ (values0_apply A) b c y x)
  · exact (concatenate_pair_apply_right (t := S2x2x96x224x224) (s₁ := S2x1x96x224x224) (s₂ := S2x1x96x224x224) 1 _ _ _ (ix5 b (1 : Fin 2) c y x)
      rfl rfl (ix5 b (0 : Fin 1) c y x) (by intro q hq; fin_cases q <;> first | rfl | exact absurd rfl hq) rfl).trans
      (frame_eq A N hN hA hO 1 _ (values1_apply A) b c y x)

end Result

end Cert.Proof.Reference

end
-- ==== Proof.lean ====
/-
  The certificate's claims, put together: each program's run, its end read at the arguments and the result, and the
  reference's result equal to the kernel's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_indices_in_plane
public import proofs.«01_k».proof.Proof.InPlane
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem

/-- The kernel read over the extended reals is the kernel's own program: no operation of it was rewritten. -/
theorem defs_same : Cert.KernelIdeal.defs (F := Ideal) = Cert.Kernel.defs (F := Ideal) := rfl
/-- So are its threads. -/
theorem threads_same : Cert.KernelIdeal.threads (F := Ideal) = Cert.Kernel.threads (F := Ideal) := rfl

/-- Where the precondition holds of the kernel's arguments, its index words name positions of a plane. -/
theorem kernel_ok (m : (ℓ : Loc Cert.Kernel.nD Cert.Kernel.τ Cert.Kernel.sig) → Buf (Elt Bits) ℓ) (h : Cert.Pre_Kernel m) :
    Cert.Proof.Kernel.PreOK m := fun d i => in_plane _ _ (h d) i

/-- The same of the kernel read over the extended reals. -/
theorem kernelIdeal_ok (m : (ℓ : Loc Cert.KernelIdeal.nD Cert.KernelIdeal.τ Cert.KernelIdeal.sig) → Buf (Elt Ideal) ℓ) (h : Cert.Pre_KernelIdeal m) :
    Cert.Proof.Kernel.PreOK (F := Ideal) m := fun d i => in_plane _ _ (h d) i

/-- That kernel's run. -/
theorem kernelIdeal_run (m : (ℓ : Loc Cert.KernelIdeal.nD Cert.KernelIdeal.τ Cert.KernelIdeal.sig) → Buf (Elt Ideal) ℓ)
    (g : Dev Cert.KernelIdeal.nD → PrngReg) (h : Cert.Pre_KernelIdeal m) :
    θ_run (Cert.KernelIdeal.defs (F := Ideal)) (Cert.KernelIdeal.threads (F := Ideal)) ⟨m, fun _ => 0, g⟩ (Cert.Proof.Kernel.QC (F := Ideal) m) := by
  rw [defs_same, threads_same]
  exact Cert.Proof.Kernel.run_main (F := Ideal) m g (kernelIdeal_ok m h)

/-- The kernel runs, leaves its arguments and ends with every semaphore at zero. -/
theorem frame_kernel : Cert.quiescent_Kernel := fun m g h =>
  (θ_run Cert.Kernel.defs _ _).mono (fun _ q => ⟨fun c => ⟨(q.1 c).1, (q.1 c).2.1⟩, q.2⟩) (Cert.Proof.Kernel.run_main m g (kernel_ok m h))

/-- So does the kernel read over the extended reals. -/
theorem frame_kernelIdeal : Cert.quiescent_KernelIdeal := fun m g h =>
  (θ_run Cert.KernelIdeal.defs _ _).mono (fun _ q => ⟨fun c => ⟨(q.1 c).1, (q.1 c).2.1⟩, q.2⟩)
    (kernelIdeal_run m g h)

/-- So does the reference, whatever its index words. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference ends with the kernel's result. -/
theorem algebraic : Cert.algebraic_KernelIdeal_ReferenceIdeal := fun m g m' g' hpre hm =>
  ⟨fun c => Cert.Proof.Kernel.result (F := Ideal) m c,
    (θ_run Cert.KernelIdeal.defs _ _).mono (fun _ q c => ⟨(q.1 c).2.2, (q.1 c).1, (q.1 c).2.1⟩)
      (kernelIdeal_run m g hpre),
    (θ_run Cert.ReferenceIdeal.defs _ _).mono (fun r h c => ⟨(h c).1.trans (by
        rw [(hm c).1, (hm c).2]
        exact Cert.Proof.Reference.value_eq (F := Ideal) (m (Cert.Proof.Kernel.aLoc c)) (m (Cert.Proof.Kernel.nLoc c))
          (kernelIdeal_ok m hpre c) _ _), (h c).2⟩)
      (Cert.ReferenceIdeal.Value.run (F := Ideal) m' g')⟩

/-- The certificate's claims. -/
theorem claim : Cert.Claim :=
  ⟨Cert.Kernel.Gen.facts, Cert.KernelIdeal.Gen.facts, Cert.ReferenceIdeal.Gen.facts, Cert.Pre_indices_in_plane.Gen.facts,
    frame_kernel, frame_kernelIdeal, frame_reference, fun m g _ => frame_reference m g trivial, trivial, algebraic⟩

end Cert.Proof

end
